-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_on_clear [hKernelIdeal : Cert.KernelIdeal.Facts] [hReferenceIdeal : Cert.ReferenceIdeal.Facts] [hOn_clear : Cert.On_clear.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 4096]⟩ ⟨2, ![512, 16384]⟩ (Layout.meshBlock [2, 4, 4] ![[], [2]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![512, 16]⟩ : Shape).Idx, (Cert.On_clear.fn (F := Ideal) (m' (((0 : Dev Cert.ReferenceIdeal.nD).tc : Thread Cert.ReferenceIdeal.nD Cert.ReferenceIdeal.τ).loc Cert.ReferenceIdeal.main_arg0))) i = 1#1 → r.2.mem ((c.tc : Thread Cert.KernelIdeal.nD Cert.KernelIdeal.τ).loc Cert.KernelIdeal.main_v1) i = v0 i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![512, 16]⟩ : Shape).Idx, (Cert.On_clear.fn (F := Ideal) (m' (((0 : Dev Cert.ReferenceIdeal.nD).tc : Thread Cert.ReferenceIdeal.nD Cert.ReferenceIdeal.τ).loc Cert.ReferenceIdeal.main_arg0))) i = 1#1 → r.2.mem (((0 : Dev Cert.ReferenceIdeal.nD).tc : Thread Cert.ReferenceIdeal.nD Cert.ReferenceIdeal.τ).loc Cert.ReferenceIdeal.main_v3) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hOn_clear : Cert.On_clear.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_clear (hKernelIdeal := hKernelIdeal) (hReferenceIdeal := hReferenceIdeal) (hOn_clear := hOn_clear)
-- ==== On_clear.lean ====
abbrev S512x16384 : Shape := ⟨2, ![512, 16384]⟩
abbrev S512x16 : Shape := ⟨2, ![512, 16]⟩
abbrev S_ : Shape := ⟨0, ![]⟩
abbrev S512x16x1 : Shape := ⟨3, ![512, 16, 1]⟩
abbrev S1 : Shape := ⟨1, ![1]⟩
abbrev S1x1x1 : Shape := ⟨3, ![1, 1, 1]⟩
abbrev S1x16x15 : Shape := ⟨3, ![1, 16, 15]⟩
abbrev S512x15 : Shape := ⟨2, ![512, 15]⟩
abbrev S512x1x15 : Shape := ⟨3, ![512, 1, 15]⟩
abbrev S512x16x15 : Shape := ⟨3, ![512, 16, 15]⟩
abbrev S512x4x32x128x1 : Shape := ⟨5, ![512, 4, 32, 128, 1]⟩
abbrev S512x1x1x1x16 : Shape := ⟨5, ![512, 1, 1, 1, 16]⟩
abbrev S512x4x32x128x16 : Shape := ⟨5, ![512, 4, 32, 128, 16]⟩
abbrev S512x4x128x16 : Shape := ⟨4, ![512, 4, 128, 16]⟩

class Facts : Prop where
  slices_S512x16384_S512x16_0_0 : S512x16384.Slices ![0, 0] S512x16
  bcast_S_S512x16 : S_.BroadcastsInDim S512x16 (![] : Fin 0 → Fin S512x16.rank)
  shapeCasts_S512x16_S512x16x1 : S512x16.ShapeCasts S512x16x1
  bcast_S_S512x16x1 : S_.BroadcastsInDim S512x16x1 (![] : Fin 0 → Fin S512x16x1.rank)
  bcast_S1_S1x1x1_2 : S1.BroadcastsInDim S1x1x1 (![2] : Fin 1 → Fin S1x1x1.rank)
  bcast_S1x1x1_S512x16x1_0_1_2 : S1x1x1.BroadcastsInDim S512x16x1 (![0, 1, 2] : Fin 3 → Fin S512x16x1.rank)
  reducesTo_S512x16x1_S512x16_d2 : S512x16x1.ReducesTo [2] S512x16
  h_S_ : 0 < S_.numel
  slices_S512x16_S512x15_0_0 : S512x16.Slices ![0, 0] S512x15
  bcast_S512x15_S512x1x15_0_2 : S512x15.BroadcastsInDim S512x1x15 (![0, 2] : Fin 2 → Fin S512x1x15.rank)
  slices_S512x16_S512x15_0_1 : S512x16.Slices ![0, 1] S512x15
  bcast_S512x1x15_S512x16x15_0_1_2 : S512x1x15.BroadcastsInDim S512x16x15 (![0, 1, 2] : Fin 3 → Fin S512x16x15.rank)
  bcast_S1x16x15_S512x16x15_0_1_2 : S1x16x15.BroadcastsInDim S512x16x15 (![0, 1, 2] : Fin 3 → Fin S512x16x15.rank)
  reducesTo_S512x16x15_S512x16_d2 : S512x16x15.ReducesTo [2] S512x16
  shapeCasts_S512x16384_S512x4x32x128x1 : S512x16384.ShapeCasts S512x4x32x128x1
  shapeCasts_S512x16_S512x1x1x1x16 : S512x16.ShapeCasts S512x1x1x1x16
  bcast_S512x4x32x128x1_S512x4x32x128x16_0_1_2_3_4 : S512x4x32x128x1.BroadcastsInDim S512x4x32x128x16 (![0, 1, 2, 3, 4] : Fin 5 → Fin S512x4x32x128x16.rank)
  bcast_S512x1x1x1x16_S512x4x32x128x16_0_1_2_3_4 : S512x1x1x1x16.BroadcastsInDim S512x4x32x128x16 (![0, 1, 2, 3, 4] : Fin 5 → Fin S512x4x32x128x16.rank)
  natLt_1_32 : 1 < 32
  reducesTo_S512x4x32x128x16_S512x4x128x16_d2 : S512x4x32x128x16.ReducesTo [2] S512x4x128x16
  bcast_S_S512x4x128x16 : S_.BroadcastsInDim S512x4x128x16 (![] : Fin 0 → Fin S512x4x128x16.rank)
  reducesTo_S512x4x128x16_S512x16_d1_2 : S512x4x128x16.ReducesTo [1, 2] S512x16
  gather_S512x16384_S512x16x1_S512x16_n_1_0_0_1_2_11_wf : GatherDims.WF S512x16384 S512x16x1 S512x16 [] [1] [0] [1] [0] 2 ![1, 1]

variable [Facts]

variable {F : FTy → Type} [FloatOps F]
def comparator_f32_i32_d1 : F .f32 × BitVec 32 → F .f32 × BitVec 32 → BitVec 1 :=
  fun l r =>
    let cst := FloatOps.ofBits .f32 0x00000000#32
    let v2 := FloatOps.cmpf .oeq l.1 cst
    let cst_0 := FloatOps.ofBits .f32 0x00000000#32
    let v3 := Scalar.select v2 cst_0 l.1
    let v4 := FloatOps.cmpf .une l.1 l.1
    let cst_1 := FloatOps.ofBits .f32 0x7FC00000#32
    let v5 := Scalar.select v4 cst_1 v3
    let cst_2 := FloatOps.ofBits .f32 0x00000000#32
    let v6 := FloatOps.cmpf .oeq r.1 cst_2
    let cst_3 := FloatOps.ofBits .f32 0x00000000#32
    let v7 := Scalar.select v6 cst_3 r.1
    let v8 := FloatOps.cmpf .une r.1 r.1
    let cst_4 := FloatOps.ofBits .f32 0x7FC00000#32
    let v9 := Scalar.select v8 cst_4 v7
    let v10 := FloatOps.cmpfTotal .lt v5 v9
    v10
def gather_S512x16384_S512x16x1_S512x16_n_1_0_0_1_2_11 : GatherDims S512x16384 S512x16x1 S512x16 where
  offsetDims := []
  collapsedSliceDims := [1]
  operandBatchingDims := [0]
  startIndicesBatchingDims := [0]
  startIndexMap := [1]
  indexVectorDim := 2
  sliceSizes := ![1, 1]
  wf := gather_S512x16384_S512x16x1_S512x16_n_1_0_0_1_2_11_wf

def fn_argsort {F : FTy → Type} [FloatOps F] (arg0 : FVec F S512x16384 .f32) : IVec S512x16384 32 :=
  let v0 : IVec S512x16384 32 := iotaInDim S512x16384 32 1
  let v1_0 : FVec F S512x16384 .f32 := (fun x y => (Host.sort2 S512x16384 1 comparator_f32_i32_d1 x y).1) arg0 v0
  let v1_1 : IVec S512x16384 32 := (fun x y => (Host.sort2 S512x16384 1 comparator_f32_i32_d1 x y).2) arg0 v0
  v1_1

def fn_take_along_axis {F : FTy → Type} [FloatOps F] (arg0 : FVec F S512x16384 .f32) (arg1 : IVec S512x16 32) : FVec F S512x16 .f32 :=
  let c : IVec S_ 32 := constantI S_ 32 0#32
  let v0 : IVec S512x16 32 := broadcastInDim S512x16 ![] bcast_S_S512x16 c
  let v1 : IVec S512x16 1 := cmpi .slt arg1 v0
  let c_0 : IVec S_ 32 := constantI S_ 32 16384#32
  let v2 : IVec S512x16 32 := broadcastInDim S512x16 ![] bcast_S_S512x16 c_0
  let v3 : IVec S512x16 32 := addi arg1 v2
  let v4 : IVec S512x16 32 := select v1 v3 arg1
  let v5 : IVec S512x16x1 32 := shapeCast S512x16x1 v4 shapeCasts_S512x16_S512x16x1
  let c_1 : IVec S1 32 := constantI S1 32 16383#32
  let c_2 : IVec S_ 32 := constantI S_ 32 0#32
  let v6 : IVec S512x16x1 32 := broadcastInDim S512x16x1 ![] bcast_S_S512x16x1 c_2
  let v7 : IVec S512x16x1 1 := cmpi .sge v5 v6
  let v8 : IVec S1x1x1 32 := broadcastInDim S1x1x1 ![2] bcast_S1_S1x1x1_2 c_1
  let v9 : IVec S512x16x1 32 := broadcastInDim S512x16x1 ![0, 1, 2] bcast_S1x1x1_S512x16x1_0_1_2 v8
  let v10 : IVec S512x16x1 1 := cmpi .sle v5 v9
  let v11 : IVec S512x16x1 1 := andi v7 v10
  let c_3 : IVec S_ 1 := constantI S_ 1 1#1
  let v12 : IVec S512x16 1 := (fun x v => Host.reduce IntOp.andi x v reducesTo_S512x16x1_S512x16_d2 h_S_) v11 c_3
  let v13 : FVec F S512x16 .f32 := (fun x i => Host.gather gather_S512x16384_S512x16x1_S512x16_n_1_0_0_1_2_11 x i) arg0 v5
  let cst : FVec F S_ .f32 := constant S_ .f32 0x7FC00000#32
  let v14 : FVec F S512x16 .f32 := broadcastInDim S512x16 ![] bcast_S_S512x16 cst
  let v15 : FVec F S512x16 .f32 := select v12 v13 v14
  v15

def fn_part2 {F : FTy → Type} [FloatOps F] (main_v29 : IVec S512x16 1) (main_v33 : IVec S512x16 1) (main_v35 : IVec S512x16 1) (main_v38 : IVec S512x16 1) : IVec S512x16 1 :=
  let main_v39 : IVec S512x16 1 := andi main_v38 main_v29
  let main_v40 : IVec S512x16 1 := andi main_v39 main_v33
  let main_v41 : IVec S512x16 1 := ori main_v35 main_v40
  main_v41

def fn_part1 {F : FTy → Type} [FloatOps F] (main_v3 : FVec F S512x16 .f32) (main_v15 : IVec S512x16 1) (main_v16 : FVec F S512x4x32x128x1 .f32) (main_v17 : FVec F S512x1x1x1x16 .f32) (main_v21 : IVec S512x4x32x128x16 32) (main_c_0 : IVec S_ 32) : IVec S512x16 1 :=
  let main_v22 : IVec S512x4x128x16 32 := (fun x v => Host.reduce IntOp.addi x v reducesTo_S512x4x32x128x16_S512x4x128x16_d2 h_S_) main_v21 main_c_0
  let main_v23 : FVec F S512x4x32x128x16 .f32 := broadcastInDim S512x4x32x128x16 ![0, 1, 2, 3, 4] bcast_S512x4x32x128x1_S512x4x32x128x16_0_1_2_3_4 main_v16
  let main_v24 : FVec F S512x4x32x128x16 .f32 := broadcastInDim S512x4x32x128x16 ![0, 1, 2, 3, 4] bcast_S512x1x1x1x16_S512x4x32x128x16_0_1_2_3_4 main_v17
  let main_v25 : IVec S512x4x32x128x16 1 := cmpf .oeq main_v23 main_v24
  let main_c_1 : IVec S_ 1 := constantI S_ 1 0#1
  let main_v26 : IVec S512x4x128x16 1 := (fun x v => Host.reduce IntOp.ori x v reducesTo_S512x4x32x128x16_S512x4x128x16_d2 h_S_) main_v25 main_c_1
  let main_c_2 : IVec S_ 32 := constantI S_ 32 4#32
  let main_v27 : IVec S512x4x128x16 32 := broadcastInDim S512x4x128x16 ![] bcast_S_S512x4x128x16 main_c_2
  let main_v28 : IVec S512x4x128x16 1 := cmpi .sle main_v22 main_v27
  let main_c_3 : IVec S_ 1 := constantI S_ 1 1#1
  let main_v29 : IVec S512x16 1 := (fun x v => Host.reduce IntOp.andi x v reducesTo_S512x4x128x16_S512x16_d1_2 h_S_) main_v28 main_c_3
  let main_c_4 : IVec S_ 32 := constantI S_ 32 3#32
  let main_v30 : IVec S512x4x128x16 32 := broadcastInDim S512x4x128x16 ![] bcast_S_S512x4x128x16 main_c_4
  let main_v31 : IVec S512x4x128x16 1 := cmpi .sle main_v22 main_v30
  let main_v32 : IVec S512x4x128x16 1 := andi main_v26 main_v31
  let main_c_5 : IVec S_ 1 := constantI S_ 1 0#1
  let main_v33 : IVec S512x16 1 := (fun x v => Host.reduce IntOp.ori x v reducesTo_S512x4x128x16_S512x16_d1_2 h_S_) main_v32 main_c_5
  let main_cst : FVec F S_ .f32 := constant S_ .f32 0xFF7FFFFF#32
  let main_v34 : FVec F S512x16 .f32 := broadcastInDim S512x16 ![] bcast_S_S512x16 main_cst
  let main_v35 : IVec S512x16 1 := cmpf .oeq main_v3 main_v34
  let main_cst_6 : FVec F S_ .f32 := constant S_ .f32 0xFF7FFFFF#32
  let main_v36 : FVec F S512x16 .f32 := broadcastInDim S512x16 ![] bcast_S_S512x16 main_cst_6
  let main_v37 : IVec S512x16 1 := cmpf .ogt main_v3 main_v36
  let main_v38 : IVec S512x16 1 := andi main_v37 main_v15
  fn_part2 (F := F) main_v29 main_v33 main_v35 main_v38

def fn {F : FTy → Type} [FloatOps F] (main_arg0 : FVec F S512x16384 .f32) : IVec S512x16 1 :=
  let main_v0 : FVec F S512x16384 .f32 := Host.negf main_arg0
  let main_v1 : IVec S512x16384 32 := fn_argsort (F := F) main_v0
  let main_v2 : IVec S512x16 32 := (extractStridedSlice S512x16 ![0, 0] · slices_S512x16384_S512x16_0_0) main_v1
  let main_v3 : FVec F S512x16 .f32 := fn_take_along_axis (F := F) main_arg0 main_v2
  let main_v4 : IVec S1x16x15 32 := iotaInDim S1x16x15 32 2
  let main_v5 : IVec S1x16x15 32 := iotaInDim S1x16x15 32 1
  let main_v6 : FVec F S512x15 .f32 := (extractStridedSlice S512x15 ![0, 0] · slices_S512x16_S512x15_0_0) main_v3
  let main_v7 : FVec F S512x1x15 .f32 := broadcastInDim S512x1x15 ![0, 2] bcast_S512x15_S512x1x15_0_2 main_v6
  let main_v8 : FVec F S512x15 .f32 := (extractStridedSlice S512x15 ![0, 1] · slices_S512x16_S512x15_0_1) main_v3
  let main_v9 : FVec F S512x1x15 .f32 := broadcastInDim S512x1x15 ![0, 2] bcast_S512x15_S512x1x15_0_2 main_v8
  let main_v10 : IVec S512x1x15 1 := cmpf .ogt main_v7 main_v9
  let main_v11 : IVec S1x16x15 1 := cmpi .sge main_v4 main_v5
  let main_v12 : IVec S512x16x15 1 := broadcastInDim S512x16x15 ![0, 1, 2] bcast_S512x1x15_S512x16x15_0_1_2 main_v10
  let main_v13 : IVec S512x16x15 1 := broadcastInDim S512x16x15 ![0, 1, 2] bcast_S1x16x15_S512x16x15_0_1_2 main_v11
  let main_v14 : IVec S512x16x15 1 := ori main_v12 main_v13
  let main_c : IVec S_ 1 := constantI S_ 1 1#1
  let main_v15 : IVec S512x16 1 := (fun x v => Host.reduce IntOp.andi x v reducesTo_S512x16x15_S512x16_d2 h_S_) main_v14 main_c
  let main_v16 : FVec F S512x4x32x128x1 .f32 := shapeCast S512x4x32x128x1 main_arg0 shapeCasts_S512x16384_S512x4x32x128x1
  let main_v17 : FVec F S512x1x1x1x16 .f32 := shapeCast S512x1x1x1x16 main_v3 shapeCasts_S512x16_S512x1x1x1x16
  let main_v18 : FVec F S512x4x32x128x16 .f32 := broadcastInDim S512x4x32x128x16 ![0, 1, 2, 3, 4] bcast_S512x4x32x128x1_S512x4x32x128x16_0_1_2_3_4 main_v16
  let main_v19 : FVec F S512x4x32x128x16 .f32 := broadcastInDim S512x4x32x128x16 ![0, 1, 2, 3, 4] bcast_S512x1x1x1x16_S512x4x32x128x16_0_1_2_3_4 main_v17
  let main_v20 : IVec S512x4x32x128x16 1 := cmpf .ogt main_v18 main_v19
  let main_v21 : IVec S512x4x32x128x16 32 := (extui 32 · natLt_1_32) main_v20
  let main_c_0 : IVec S_ 32 := constantI S_ 32 0#32
  fn_part1 (F := F) main_v3 main_v15 main_v16 main_v17 main_v21 main_c_0
-- ==== Kernel.lean ====
abbrev S512x4096 : Shape := ⟨2, ![512, 4096]⟩
abbrev S512x16 : Shape := ⟨2, ![512, 16]⟩
abbrev S3x512x16 : Shape := ⟨3, ![3, 512, 16]⟩
abbrev S3 : Shape := ⟨1, ![3]⟩
abbrev S_ : Shape := ⟨0, ![]⟩
abbrev S512x128 : Shape := ⟨2, ![512, 128]⟩
abbrev S512x512 : Shape := ⟨2, ![512, 512]⟩
abbrev S512 : Shape := ⟨1, ![512]⟩
abbrev S512x1 : Shape := ⟨2, ![512, 1]⟩
abbrev S1 : Shape := ⟨1, ![1]⟩
abbrev S1x512x16 : Shape := ⟨3, ![1, 512, 16]⟩
abbrev S512x64 : Shape := ⟨2, ![512, 64]⟩

abbrev nBuf : Space → Nat
  | .hbm => 2
  | .vmem => 4
  | .smem => 0
  | _ => 0

abbrev bufTy : (tb : Table) → Fin (tcTables nBuf tb) → BufTy
  | .hbm, ⟨0, _⟩ => ⟨S512x4096, .f32⟩
  | .hbm, ⟨1, _⟩ => ⟨S512x16, .f32⟩
  | .local _ .vmem, ⟨0, _⟩ => ⟨S512x4096, .f32⟩
  | .local _ .vmem, ⟨1, _⟩ => ⟨S512x16, .f32⟩
  | .local _ .vmem, ⟨2, _⟩ => ⟨S512x16, .f32⟩
  | .local _ .vmem, ⟨3, _⟩ => ⟨S3x512x16, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 2 → Bool
  | ⟨0, _⟩ => false
  | ⟨1, _⟩ => true
  | _ => false

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  (ofTc nBuf bufTy 2 8 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_4 : BitVec 32 := 16#32
  let v11 : BitVec 32 := Scalar.muli v2 c16_i32_4
  let v12 : BitVec 32 := Scalar.addi c0_i32 v11
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5 : BitVec 32 := 4#32
  let v13 : BitVec 32 := Scalar.muli v5 c4_i32_5
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v10 : BitVec 32 := Scalar.xori v8 c1_i32_2
  let c1_i32_6 : BitVec 32 := 1#32
  let v15 : BitVec 32 := Scalar.muli v10 c1_i32_6
  let v16 : BitVec 32 := Scalar.addi v14 v15
  v16.toNat
def k0_dev2 (d0 : Dev nD) : Nat :=
  let c0_i32_10 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_9 : BitVec 32 := 16#32
  let v18 : BitVec 32 := Scalar.muli v2 c16_i32_9
  let v19 : BitVec 32 := Scalar.addi c0_i32_10 v18
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_11 : BitVec 32 := 4#32
  let v20 : BitVec 32 := Scalar.muli v5 c4_i32_11
  let v21 : BitVec 32 := Scalar.addi v19 v20
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_7 : BitVec 32 := 2#32
  let v17 : BitVec 32 := Scalar.xori v8 c2_i32_7
  let c1_i32_12 : BitVec 32 := 1#32
  let v22 : BitVec 32 := Scalar.muli v17 c1_i32_12
  let v23 : BitVec 32 := Scalar.addi v21 v22
  v23.toNat
def k0_dev3 (d0 : Dev nD) : Nat :=
  let c0_i32_15 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_14 : BitVec 32 := 16#32
  let v25 : BitVec 32 := Scalar.muli v2 c16_i32_14
  let v26 : BitVec 32 := Scalar.addi c0_i32_15 v25
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_16 : BitVec 32 := 4#32
  let v27 : BitVec 32 := Scalar.muli v5 c4_i32_16
  let v28 : BitVec 32 := Scalar.addi v26 v27
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v24 : BitVec 32 := Scalar.xori v8 c3_i32
  let c1_i32_17 : BitVec 32 := 1#32
  let v29 : BitVec 32 := Scalar.muli v24 c1_i32_17
  let v30 : BitVec 32 := Scalar.addi v28 v29
  v30.toNat
def k0_dev4 (d0 : Dev nD) : Nat :=
  let c0_i32_184 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_183 : BitVec 32 := 16#32
  let v605 : BitVec 32 := Scalar.muli v2 c16_i32_183
  let v606 : BitVec 32 := Scalar.addi c0_i32_184 v605
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_185 : BitVec 32 := 4#32
  let v607 : BitVec 32 := Scalar.muli v5 c4_i32_185
  let v608 : BitVec 32 := Scalar.addi v606 v607
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_179 : BitVec 32 := 1#32
  let v604 : BitVec 32 := Scalar.xori v8 c1_i32_179
  let c1_i32_186 : BitVec 32 := 1#32
  let v609 : BitVec 32 := Scalar.muli v604 c1_i32_186
  let v610 : BitVec 32 := Scalar.addi v608 v609
  v610.toNat
def k0_dev5 (d0 : Dev nD) : Nat :=
  let c0_i32_194 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_193 : BitVec 32 := 16#32
  let v618 : BitVec 32 := Scalar.muli v2 c16_i32_193
  let v619 : BitVec 32 := Scalar.addi c0_i32_194 v618
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_195 : BitVec 32 := 4#32
  let v620 : BitVec 32 := Scalar.muli v5 c4_i32_195
  let v621 : BitVec 32 := Scalar.addi v619 v620
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_189 : BitVec 32 := 2#32
  let v617 : BitVec 32 := Scalar.xori v8 c2_i32_189
  let c1_i32_196 : BitVec 32 := 1#32
  let v622 : BitVec 32 := Scalar.muli v617 c1_i32_196
  let v623 : BitVec 32 := Scalar.addi v621 v622
  v623.toNat
def k0_dev6 (d0 : Dev nD) : Nat :=
  let c0_i32_204 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_203 : BitVec 32 := 16#32
  let v631 : BitVec 32 := Scalar.muli v2 c16_i32_203
  let v632 : BitVec 32 := Scalar.addi c0_i32_204 v631
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_205 : BitVec 32 := 4#32
  let v633 : BitVec 32 := Scalar.muli v5 c4_i32_205
  let v634 : BitVec 32 := Scalar.addi v632 v633
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_199 : BitVec 32 := 3#32
  let v630 : BitVec 32 := Scalar.xori v8 c3_i32_199
  let c1_i32_206 : BitVec 32 := 1#32
  let v635 : BitVec 32 := Scalar.muli v630 c1_i32_206
  let v636 : BitVec 32 := Scalar.addi v634 v635
  v636.toNat
def k0_dev7 (d0 : Dev nD) : Nat :=
  let c0_i32_299_r0 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_298_r0 : BitVec 32 := 16#32
  let v789_r0 : BitVec 32 := Scalar.muli v2 c16_i32_298_r0
  let v790_r0 : BitVec 32 := Scalar.addi c0_i32_299_r0 v789_r0
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_300_r0 : BitVec 32 := 4#32
  let v791_r0 : BitVec 32 := Scalar.muli v5 c4_i32_300_r0
  let v792_r0 : BitVec 32 := Scalar.addi v790_r0 v791_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_296_r0 : BitVec 32 := 1#32
  let v788_r0 : BitVec 32 := Scalar.xori v8 c1_i32_296_r0
  let c1_i32_301_r0 : BitVec 32 := 1#32
  let v793_r0 : BitVec 32 := Scalar.muli v788_r0 c1_i32_301_r0
  let v794_r0 : BitVec 32 := Scalar.addi v792_r0 v793_r0
  v794_r0.toNat
def k0_dev8 (d0 : Dev nD) : Nat :=
  let c0_i32_305_r0 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_304_r0 : BitVec 32 := 16#32
  let v796_r0 : BitVec 32 := Scalar.muli v2 c16_i32_304_r0
  let v797_r0 : BitVec 32 := Scalar.addi c0_i32_305_r0 v796_r0
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_306_r0 : BitVec 32 := 4#32
  let v798_r0 : BitVec 32 := Scalar.muli v5 c4_i32_306_r0
  let v799_r0 : BitVec 32 := Scalar.addi v797_r0 v798_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_302_r0 : BitVec 32 := 2#32
  let v795_r0 : BitVec 32 := Scalar.xori v8 c2_i32_302_r0
  let c1_i32_307_r0 : BitVec 32 := 1#32
  let v800_r0 : BitVec 32 := Scalar.muli v795_r0 c1_i32_307_r0
  let v801_r0 : BitVec 32 := Scalar.addi v799_r0 v800_r0
  v801_r0.toNat
def k0_dev9 (d0 : Dev nD) : Nat :=
  let c0_i32_311_r0 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_310_r0 : BitVec 32 := 16#32
  let v803_r0 : BitVec 32 := Scalar.muli v2 c16_i32_310_r0
  let v804_r0 : BitVec 32 := Scalar.addi c0_i32_311_r0 v803_r0
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_312_r0 : BitVec 32 := 4#32
  let v805_r0 : BitVec 32 := Scalar.muli v5 c4_i32_312_r0
  let v806_r0 : BitVec 32 := Scalar.addi v804_r0 v805_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_308_r0 : BitVec 32 := 3#32
  let v802_r0 : BitVec 32 := Scalar.xori v8 c3_i32_308_r0
  let c1_i32_313_r0 : BitVec 32 := 1#32
  let v807_r0 : BitVec 32 := Scalar.muli v802_r0 c1_i32_313_r0
  let v808_r0 : BitVec 32 := Scalar.addi v806_r0 v807_r0
  v808_r0.toNat
abbrev stage0_0 : Fin 1 → Memref sig .tc .vmem S512x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S512x16384 : Shape := ⟨2, ![512, 16384]⟩
abbrev S512x16 : Shape := ⟨2, ![512, 16]⟩
abbrev S_ : Shape := ⟨0, ![]⟩
abbrev S512x16x1 : Shape := ⟨3, ![512, 16, 1]⟩
abbrev S1 : Shape := ⟨1, ![1]⟩
abbrev S1x1x1 : Shape := ⟨3, ![1, 1, 1]⟩

abbrev nBuf : Space → Nat
  | .hbm => 28
  | .vmem => 0
  | .smem => 0
  | _ => 0

abbrev bufTy : (tb : Table) → Fin (tcTables nBuf tb) → BufTy
  | .hbm, ⟨0, _⟩ => ⟨S512x16384, .f32⟩
  | .hbm, ⟨1, _⟩ => ⟨S512x16384, .f32⟩
  | .hbm, ⟨2, _⟩ => ⟨S512x16384, .i32⟩
  | .hbm, ⟨3, _⟩ => ⟨S512x16384, .f32⟩
  | .hbm, ⟨4, _⟩ => ⟨S512x16384, .i32⟩
  | .hbm, ⟨5, _⟩ => ⟨S512x16, .i32⟩
  | .hbm, ⟨6, _⟩ => ⟨S_, .i32⟩
  | .hbm, ⟨7, _⟩ => ⟨S512x16, .i32⟩
  | .hbm, ⟨8, _⟩ => ⟨S512x16, .i1⟩
  | .hbm, ⟨9, _⟩ => ⟨S_, .i32⟩
  | .hbm, ⟨10, _⟩ => ⟨S512x16, .i32⟩
  | .hbm, ⟨11, _⟩ => ⟨S512x16, .i32⟩
  | .hbm, ⟨12, _⟩ => ⟨S512x16, .i32⟩
  | .hbm, ⟨13, _⟩ => ⟨S512x16x1, .i32⟩
  | .hbm, ⟨14, _⟩ => ⟨S1, .i32⟩
  | .hbm, ⟨15, _⟩ => ⟨S_, .i32⟩
  | .hbm, ⟨16, _⟩ => ⟨S512x16x1, .i32⟩
  | .hbm, ⟨17, _⟩ => ⟨S512x16x1, .i1⟩
  | .hbm, ⟨18, _⟩ => ⟨S1x1x1, .i32⟩
  | .hbm, ⟨19, _⟩ => ⟨S512x16x1, .i32⟩
  | .hbm, ⟨20, _⟩ => ⟨S512x16x1, .i1⟩
  | .hbm, ⟨21, _⟩ => ⟨S512x16x1, .i1⟩
  | .hbm, ⟨22, _⟩ => ⟨S_, .i1⟩
  | .hbm, ⟨23, _⟩ => ⟨S512x16, .i1⟩
  | .hbm, ⟨24, _⟩ => ⟨S512x16, .f32⟩
  | .hbm, ⟨25, _⟩ => ⟨S_, .f32⟩
  | .hbm, ⟨26, _⟩ => ⟨S512x16, .f32⟩
  | .hbm, ⟨27, _⟩ => ⟨S512x16, .f32⟩
  | _, _ => ⟨S512x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_call0_v0 : Ref sig .tc := ⟨.hbm, 2, rfl⟩
abbrev main_call0_v1_0 : Ref sig .tc := ⟨.hbm, 3, rfl⟩
abbrev main_v1 : Ref sig .tc := ⟨.hbm, 4, rfl⟩
abbrev main_v2 : Ref sig .tc := ⟨.hbm, 5, rfl⟩
abbrev main_call1_c : Ref sig .tc := ⟨.hbm, 6, rfl⟩
abbrev main_call1_v0 : Ref sig .tc := ⟨.hbm, 7, rfl⟩
abbrev main_call1_v1 : Ref sig .tc := ⟨.hbm, 8, rfl⟩
abbrev main_call1_c_0 : Ref sig .tc := ⟨.hbm, 9, rfl⟩
abbrev main_call1_v2 : Ref sig .tc := ⟨.hbm, 10, rfl⟩
abbrev main_call1_v3 : Ref sig .tc := ⟨.hbm, 11, rfl⟩
abbrev main_call1_v4 : Ref sig .tc := ⟨.hbm, 12, rfl⟩
abbrev main_call1_v5 : Ref sig .tc := ⟨.hbm, 13, rfl⟩
abbrev main_call1_c_1 : Ref sig .tc := ⟨.hbm, 14, rfl⟩
abbrev main_call1_c_2 : Ref sig .tc := ⟨.hbm, 15, rfl⟩
abbrev main_call1_v6 : Ref sig .tc := ⟨.hbm, 16, rfl⟩
abbrev main_call1_v7 : Ref sig .tc := ⟨.hbm, 17, rfl⟩
abbrev main_call1_v8 : Ref sig .tc := ⟨.hbm, 18, rfl⟩
abbrev main_call1_v9 : Ref sig .tc := ⟨.hbm, 19, rfl⟩
abbrev main_call1_v10 : Ref sig .tc := ⟨.hbm, 20, rfl⟩
abbrev main_call1_v11 : Ref sig .tc := ⟨.hbm, 21, rfl⟩
abbrev main_call1_c_3 : Ref sig .tc := ⟨.hbm, 22, rfl⟩
abbrev main_call1_v12 : Ref sig .tc := ⟨.hbm, 23, rfl⟩
abbrev main_call1_v13 : Ref sig .tc := ⟨.hbm, 24, rfl⟩
abbrev main_call1_cst : Ref sig .tc := ⟨.hbm, 25, rfl⟩
abbrev main_call1_v14 : Ref sig .tc := ⟨.hbm, 26, rfl⟩
abbrev main_v3 : Ref sig .tc := ⟨.hbm, 27, rfl⟩

abbrev nD : Nat := 1
abbrev τ : Topo := Topo.v7x

variable {F : FTy → Type} [FloatOps F]
-- ==== Proof.Body.lean ====
/-
The kernel's body as one short program: what each device computes from the blocks it holds (`localTop`, `mergeTop`),
and the body with its arithmetic folded into those two functions (`body`), equal to the printed body by unfolding.
-/
module

public import proofs.«01_k».proof.Proof.Gen.KernelIdeal
public import proofs.«01_k».proof.Proof.Gen.KernelIdeal.Skeleton
public import Idealize.ShloMosaic.Lib.Tactic

@[expose] public section

noncomputable section

namespace Cert.TopK

open Cert.KernelIdeal Cert.KernelIdeal.Gen
open Idealize.ShloMosaic Idealize.SL.Sem

variable {F : FTy → Type} [FloatOps F]

/-! ## The arithmetic -/

/-- The sentinel, the lowest finite number, everywhere. -/
def lowest (s : Shape) : FVec F s .f32 := broadcast s (Scalar.ofBits .f32 0xFF7FFFFF#32)

/-- The entries of `v` that are below `prev`, the sentinel in place of the others. -/
def below {s : Shape} (prev v : FVec F s .f32) : FVec F s .f32 := select (cmpf .olt v prev) v (lowest s)

/-- The maximum of several vectors, entry by entry. -/
def maxOf : List (FVec F S512x128 .f32) → FVec F S512x128 .f32
  | [] => lowest _
  | v :: l => l.foldl maximumf v

/-- The `n`-th round over the slices: the greatest entry of each lane, of those below the round before's. -/
def laneTop (sl : List (FVec F S512x128 .f32)) : Nat → FVec F S512x128 .f32
  | 0 => maxOf sl
  | n + 1 => maxOf (sl.map (below (laneTop sl n)))

/-- A row's greatest entry, as a column. -/
def rowMax {w : Nat} (h : (⟨2, ![512, w]⟩ : Shape).Reduces [1] S512) (v : FVec F ⟨2, ![512, w]⟩ .f32) : FVec F S512x1 .f32 :=
  shapeCast S512x1 (multiReduction .maximumf [1] S512 v 0xFF800000#32 h (.inl rfl) rfl) shapeCasts_S512_S512x1

/-- The `n`-th round over rows: each row's greatest entry, of those below the round before's. -/
def rowTop {w : Nat} (h : (⟨2, ![512, w]⟩ : Shape).Reduces [1] S512) (hb : S512x1.Broadcasts ⟨2, ![512, w]⟩) (v : FVec F ⟨2, ![512, w]⟩ .f32) : Nat → FVec F S512x1 .f32
  | 0 => rowMax h v
  | n + 1 => rowMax h (below (broadcastTo ⟨2, ![512, w]⟩ (rowTop h hb v n) hb) v)

/-- The sixteen rounds over rows, side by side. -/
def rowTops {w : Nat} (h : (⟨2, ![512, w]⟩ : Shape).Reduces [1] S512) (hb : S512x1.Broadcasts ⟨2, ![512, w]⟩) (v : FVec F ⟨2, ![512, w]⟩ .f32) : FVec F S512x16 .f32 :=
  concatenate S512x16 1 [⟨S512x1, rowTop h hb v 0⟩, ⟨S512x1, rowTop h hb v 1⟩, ⟨S512x1, rowTop h hb v 2⟩, ⟨S512x1, rowTop h hb v 3⟩,
    ⟨S512x1, rowTop h hb v 4⟩, ⟨S512x1, rowTop h hb v 5⟩, ⟨S512x1, rowTop h hb v 6⟩, ⟨S512x1, rowTop h hb v 7⟩,
    ⟨S512x1, rowTop h hb v 8⟩, ⟨S512x1, rowTop h hb v 9⟩, ⟨S512x1, rowTop h hb v 10⟩, ⟨S512x1, rowTop h hb v 11⟩,
    ⟨S512x1, rowTop h hb v 12⟩, ⟨S512x1, rowTop h hb v 13⟩, ⟨S512x1, rowTop h hb v 14⟩, ⟨S512x1, rowTop h hb v 15⟩]
    concatenates_S512x1_S512x1_S512x1_S512x1_S512x1_S512x1_S512x1_S512x1_S512x1_S512x1_S512x1_S512x1_S512x1_S512x1_S512x1_S512x1_S512x16_d1

/-- The four lane rounds of a device's slices, side by side. -/
def laneTops (sl : List (FVec F S512x128 .f32)) : FVec F S512x512 .f32 :=
  concatenate S512x512 1 [⟨S512x128, laneTop sl 0⟩, ⟨S512x128, laneTop sl 1⟩, ⟨S512x128, laneTop sl 2⟩, ⟨S512x128, laneTop sl 3⟩]
    concatenates_S512x128_S512x128_S512x128_S512x128_S512x512_d1

/-- A device's sixteen candidates of each row, from the slices of its block. -/
def localTop (sl : List (FVec F S512x128 .f32)) : FVec F S512x16 .f32 :=
  shapeCast S512x16 (rowTops reduces_S512x512_S512 broadcasts_S512x1_S512x512
    (laneTops (sl.map fun v => shapeCast S512x128 v shapeCasts_S512x128_S512x128))) shapeCasts_S512x16_S512x16

/-- A row's candidates of the four devices, side by side. -/
def joined (own : FVec F S512x16 .f32) (r0 r1 r2 : FVec F S1x512x16 .f32) : FVec F S512x64 .f32 :=
  concatenate S512x64 1 [⟨S512x16, own⟩, ⟨S512x16, shapeCast S512x16 r0 shapeCasts_S1x512x16_S512x16⟩,
    ⟨S512x16, shapeCast S512x16 r1 shapeCasts_S1x512x16_S512x16⟩, ⟨S512x16, shapeCast S512x16 r2 shapeCasts_S1x512x16_S512x16⟩]
    concatenates_S512x16_S512x16_S512x16_S512x16_S512x64_d1

/-- The kernel's result, from the four devices' candidates. -/
def mergeTop (own : FVec F S512x16 .f32) (r0 r1 r2 : FVec F S1x512x16 .f32) : FVec F S512x16 .f32 :=
  rowTops reduces_S512x64_S512 broadcasts_S512x1_S512x64 (joined own r0 r1 r2)

/-! ## The body -/

abbrev TcProg (F : FTy → Type) [FloatOps F] (α : Type) : Type 1 := Prog (TpuEff nD τ sig (Elt F) Λ₀ .tc) α

/-- Slice `j` of a device's block lies inside the block. -/
theorem slice_inb (j : Nat) (h : j < 32) : ∀ a, (![0, 128 * j] : Fin 2 → Nat) a + S512x128.size a ≤ S512x4096.size a := by
  refine Fin.forall_fin_two.mpr ⟨by show 0 + 512 ≤ 512; omega, by show 128 * j + 128 ≤ 4096; omega⟩

/-- The columns of slice `j`. -/
abbrev sliceRect (j : Nat) (h : j < 32) : Rect S512x4096 := Rect.unit (s := S512x4096) ![0, 128 * j] S512x128.size (slice_inb j h)

/-- Read `n` slices from slice `j` on, then go on with them. -/
def readSlices {α : Type} (x : Memref sig .tc .vmem S512x4096 .f32) : (j n : Nat) → j + n ≤ 32 → (List (FVec F S512x128 .f32) → TcProg F α) → TcProg F α
  | _, 0, _, k => k []
  | j, n + 1, h, k =>
    .op (.load x (sliceRect j (by omega)).toLoadRect (View.loadsAt_vmem h_S512x128)) fun v =>
      readSlices x (j + 1) n (by omega) fun l => k (v :: l)

/-! ### The buffers and semaphores a device names -/

/-- A device's block of `x`; its result; its own candidates; the three slots its peers' candidates land in. -/
abbrev xM : Memref sig .tc .vmem S512x4096 .f32 := Memref.whole cc0_stg0_0
abbrev oM : Memref sig .tc .vmem S512x16 .f32 := Memref.whole cc0_stg1_0
abbrev cM : Memref sig .tc .vmem S512x16 .f32 := Memref.whole cc0_scratch0
abbrev gM : Memref sig .tc .vmem S3x512x16 .f32 := Memref.whole cc0_scratch1

/-- The semaphores of the entry and of the exit handshake. -/
abbrev barS : Sem sig := (SemArray.scalar (sig.barrier 0 rfl) : Sems sig S_).sem
abbrev exitS : Sem sig := (cc0_scoped0 : Sems sig S_).sem

theorem sem_inb (j : Fin 3) : ∀ a, (![j.val] : Fin 1 → Nat) a + S1.size a ≤ S3.size a := by
  revert j; decide
theorem slot_inb (j : Fin 3) : ∀ a, (![j.val, 0, 0] : Fin 3 → Nat) a + S1x512x16.size a ≤ S3x512x16.size a := by
  revert j; decide

/-- The semaphores on which the copy to peer `j` leaves and the copy from peer `j` lands. -/
abbrev sendS (j : Fin 3) : DmaSem sig :=
  ((cc0_scratch2.slice (Rect.unit (s := S3) ![j.val] S1.size (sem_inb j))).squeeze S_ squeezes_S1_S_ : DmaSems sig S_).sem
abbrev recvS (j : Fin 3) : DmaSem sig :=
  ((cc0_scratch3.slice (Rect.unit (s := S3) ![j.val] S1.size (sem_inb j))).squeeze S_ squeezes_S1_S_ : DmaSems sig S_).sem

abbrev slotRect (j : Fin 3) : Rect S3x512x16 := Rect.unit (s := S3x512x16) ![j.val, 0, 0] S1x512x16.size (slot_inb j)
/-- The slot peer `j`'s candidates land in. -/
abbrev slotM (j : Fin 3) : Memref sig .tc .vmem S512x16 .f32 :=
  (gM.slice (slotRect j) (fun _ => rfl)).squeeze S512x16 squeezes_S1x512x16_S512x16

/-- All of a 512x16 buffer. -/
abbrev allRect : Rect S512x16 := Rect.unit (s := S512x16) ![0, 0] S512x16.size inb_S512x16_S512x16_0_0

/-! ### The program -/

abbrev loadAll (m : Memref sig .tc .vmem S512x16 .f32) : TcProg F (Vec F S512x16 .f32) :=
  Prog.lift (.load m allRect.toLoadRect (View.loadsAt_vmem h_S512x16))
abbrev storeAll (m : Memref sig .tc .vmem S512x16 .f32) (v : FVec F S512x16 .f32) : TcProg F PUnit :=
  Prog.lift (.store m allRect v Finset.univ (View.stores_vmem_bits_univ h_S512x16 rfl) (.inl rfl))
abbrev loadSlot (j : Fin 3) : TcProg F (Vec F S1x512x16 .f32) :=
  Prog.lift (.load gM (slotRect j).toLoadRect (View.loadsAt_vmem h_S1x512x16))
/-- Start copying the candidates into slot `j` of device `p`. -/
abbrev copyTo (p : Dev nD) (j : Fin 3) : TcProg F PUnit :=
  Prog.lift (.enqueueDma cM (.remote (Dev.tc p) (slotM j) (.dma (sendS j))) (.dma (recvS j)) (Memref.isWhole_whole cc0_scratch0).wordExact
    ((View.wordExact_bits rfl).reshape _ _) ⟨⟨rfl, Or.inl rfl⟩, trivial⟩)
abbrev waitSent (j : Fin 3) : TcProg F PUnit :=
  Prog.lift (.waitDma2 (sendS j) (slotM j) cM ((View.wordExact_bits rfl).reshape _ _) (Memref.isWhole_whole cc0_scratch0).wordExact)
abbrev waitLanded (j : Fin 3) : TcProg F PUnit :=
  Prog.lift (.waitDma2 (recvS j) cM (slotM j) (Memref.isWhole_whole cc0_scratch0).wordExact ((View.wordExact_bits rfl).reshape _ _))

/-- What a device does once the devices it signals at the entry (`b`), copies to (`s`) and signals at the exit (`e`) are named. -/
def main (b s e : Fin 3 → Dev nD) : TcProg F PUnit := do
  semSignalWord (b 0) barS 1#32
  semSignalWord (b 1) barS 1#32
  semSignalWord (b 2) barS 1#32
  semWaitWord barS 3#32
  readSlices xM 0 32 (Nat.le_refl _) fun sl => do
  let _ ← loadAll cM
  storeAll cM (localTop sl)
  copyTo (s 0) 0
  copyTo (s 1) 1
  copyTo (s 2) 2
  waitSent 0
  waitLanded 0
  waitSent 1
  waitLanded 1
  waitSent 2
  waitLanded 2
  let own ← loadAll cM
  let g0 ← loadSlot 0
  let g1 ← loadSlot 1
  let g2 ← loadSlot 2
  let _ ← loadAll oM
  storeAll oM (mergeTop own g0 g1 g2)
  semSignalWord (e 0) exitS 1#32
  semSignalWord (e 1) exitS 1#32
  semSignalWord (e 2) exitS 1#32
  semWaitWord exitS 3#32

/-! ### The peers -/

/-- Peer `j` of device `c`: the device whose number along the axis cut in four is `c`'s xor `j + 1`. -/
def peer (j : Fin 3) (c : Dev nD) : Dev nD := ⟨Nat.xor c.val (j.val + 1), Nat.xor_lt_two_pow (n := 5) c.isLt (by omega)⟩

theorem peer_peer (j : Fin 3) (c : Dev nD) : peer j (peer j c) = c := by revert j c; decide

/-- The device names the program computes are the peers. -/
theorem dev1_eq (c : Dev nD) : (⟨k0_dev1 c, k0_dev1_lt c⟩ : Dev nD) = peer 0 c := by revert c; decide
theorem dev2_eq (c : Dev nD) : (⟨k0_dev2 c, k0_dev2_lt c⟩ : Dev nD) = peer 1 c := by revert c; decide
theorem dev3_eq (c : Dev nD) : (⟨k0_dev3 c, k0_dev3_lt c⟩ : Dev nD) = peer 2 c := by revert c; decide
theorem dev4_eq (c : Dev nD) : (⟨k0_dev4 c, k0_dev4_lt c⟩ : Dev nD) = peer 0 c := by revert c; decide
theorem dev5_eq (c : Dev nD) : (⟨k0_dev5 c, k0_dev5_lt c⟩ : Dev nD) = peer 1 c := by revert c; decide
theorem dev6_eq (c : Dev nD) : (⟨k0_dev6 c, k0_dev6_lt c⟩ : Dev nD) = peer 2 c := by revert c; decide
theorem dev7_eq (c : Dev nD) : (⟨k0_dev7 c, k0_dev7_lt c⟩ : Dev nD) = peer 0 c := by revert c; decide
theorem dev8_eq (c : Dev nD) : (⟨k0_dev8 c, k0_dev8_lt c⟩ : Dev nD) = peer 1 c := by revert c; decide
theorem dev9_eq (c : Dev nD) : (⟨k0_dev9 c, k0_dev9_lt c⟩ : Dev nD) = peer 2 c := by revert c; decide

/-- The printed body, on the buffers the launch gives it. -/
abbrev printed : TcProg F PUnit :=
  cc0_body (Memref.whole cc0_stg0_0) (Memref.isWhole_whole _) (Memref.whole cc0_stg1_0) (Memref.isWhole_whole _)
    (Memref.whole cc0_scratch0) (Memref.isWhole_whole _) (Memref.whole cc0_scratch1) (Memref.isWhole_whole _) cc0_scratch2 cc0_scratch3 cc0_scoped0

/-- The printed body asks for its device's number, then is the program above at the device names it computes. -/
theorem printed_eq : printed (F := F) = .op .deviceId fun d =>
    main ![⟨k0_dev1 d, k0_dev1_lt d⟩, ⟨k0_dev2 d, k0_dev2_lt d⟩, ⟨k0_dev3 d, k0_dev3_lt d⟩]
      ![⟨k0_dev4 d, k0_dev4_lt d⟩, ⟨k0_dev5 d, k0_dev5_lt d⟩, ⟨k0_dev6 d, k0_dev6_lt d⟩]
      ![⟨k0_dev7 d, k0_dev7_lt d⟩, ⟨k0_dev8 d, k0_dev8_lt d⟩, ⟨k0_dev9 d, k0_dev9_lt d⟩] := by
  sl_kernel_rfl

/-- The printed body is the program above among the device's peers. -/
theorem printed_eq_peers : printed (F := F) = .op .deviceId fun d => main (peer · d) (peer · d) (peer · d) := by
  rw [printed_eq]
  refine congrArg (Prog.op TpuEff.deviceId) (funext fun d => ?_)
  rw [dev1_eq, dev2_eq, dev3_eq, dev4_eq, dev5_eq, dev6_eq, dev7_eq, dev8_eq, dev9_eq]
  have h : (![peer 0 d, peer 1 d, peer 2 d] : Fin 3 → Dev nD) = (peer · d) := by
    funext j; fin_cases j <;> rfl
  rw [h]

end Cert.TopK

end
-- ==== Proof.Protocol.lean ====
/-
The protocol of one launch: what the semaphores carry, who pays what onto them, and in which order a device may wait.

Each device owns eight cells, numbered 0 to 7. For a device `c` and its three peers `peer j c`:

* cell 0, the entry handshake: each peer adds one unit, and hands `c` the slot of its own landing buffer that `c` will
  copy into; `c` waits for the three.
* cells 2, 3, 4, one per peer: `c`'s own copy to peer `j` adds the block's credit when it has been read, and hands back the
  share of `c`'s candidates that the copy read from.
* cells 5, 6, 7, one per peer: peer `j`'s copy adds the block's credit when it has landed, and hands `c` slot `j`, holding
  peer `j`'s candidates.
* cell 1, the exit handshake: each peer adds one unit, handing over nothing.

A device waits on its cells in the order 0, then 2, 5, 3, 6, 4, 7, then 1. Cells 0 rank below the landing cells 5, 6, 7,
those below cells 1; a device never waits on a cell while it owes one of the same rank or below.
-/
module

public import proofs.«01_k».proof.Proof.Body
public import proofs.«01_k».proof.Proof.Gen.KernelIdeal.Launch
public import Idealize.ShloMosaic.Lib.Pipeline.Launch
public import Idealize.ShloMosaic.Lib.Pipeline.Kit
public import Idealize.ShloMosaic.Lib.Ring.Trips

@[expose] public section

noncomputable section

namespace Cert.TopK

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The exchange's own accounts, beside the block transfers'. -/
abbrev UX : Type := URounds (GSem nD τ sig) (Fin 3)
abbrev UU : Type := UR sig nD τ × UX

local notation "𝕄" => MT nD τ sig Unit (Elt F) ℕ UU ℕ

abbrev EP : Emb (UR sig nD τ) (MT nD τ sig Unit (Elt F) ℕ UU ℕ) := embL
abbrev EX : Emb UX (MT nD τ sig Unit (Elt F) ℕ UU ℕ) := embR

variable (m : (ℓ : Loc nD τ sig) → Buf (Elt F) ℓ) (ρ : Dev nD → PrngReg)

/-- The memory at launch: any contents, every counter at zero. -/
def s₀ : MemSt nD τ sig (Elt F) := ⟨m, fun _ => 0, ρ⟩

/-! ## The cells -/

/-- The number of the cell that the copy to peer `j` leaves on, and of the one the copy from peer `j` lands on. -/
abbrev sK (j : Fin 3) : Fin 8 := ⟨j.val + 2, by omega⟩
abbrev rK (j : Fin 3) : Fin 8 := ⟨j.val + 5, by omega⟩

/-- The semaphore of a cell number. -/
abbrev csem : Fin 8 → SemLoc sig
  | 0 => .reg barS | 1 => .reg exitS
  | 2 => .dma (sendS 0) | 3 => .dma (sendS 1) | 4 => .dma (sendS 2)
  | 5 => .dma (recvS 0) | 6 => .dma (recvS 1) | 7 => .dma (recvS 2)

theorem csem_sK (j : Fin 3) : csem (sK j) = .dma (sendS j) := by fin_cases j <;> rfl
theorem csem_rK (j : Fin 3) : csem (rK j) = .dma (recvS j) := by fin_cases j <;> rfl

abbrev kcell (ck : Dev nD × Fin 8) : GSem nD τ sig := ((ck.1 : Thread nD τ), csem ck.2)

theorem kcell_sK (c : Dev nD) (j : Fin 3) : kcell (c, sK j) = ((c : Thread nD τ), .dma (sendS j)) := congrArg (Prod.mk (c : Thread nD τ)) (csem_sK j)
theorem kcell_rK (c : Dev nD) (j : Fin 3) : kcell (c, rK j) = ((c : Thread nD τ), .dma (recvS j)) := congrArg (Prod.mk (c : Thread nD τ)) (csem_rK j)

/-- The cell number of a semaphore, if it is one of the eight. -/
def kindOf (l : SemLoc sig) : Option (Fin 8) := (List.finRange 8).find? fun k => decide (csem k = l)

theorem kindOf_csem (k : Fin 8) : kindOf (csem k) = some k := by revert k; decide

theorem csem_injective : Function.Injective csem := fun k k' h => by
  have := congrArg kindOf h; rw [kindOf_csem, kindOf_csem] at this; exact Option.some.inj this
theorem kcell_injective : Function.Injective (kcell : Dev nD × Fin 8 → GSem nD τ sig) := by
  rintro ⟨c, k⟩ ⟨c', k'⟩ h
  have h1 : c = c' := congrArg (fun g : GSem nD τ sig => g.1.1) h
  have h2 : k = k' := csem_injective (congrArg Prod.snd h)
  rw [h1, h2]

/-- The credit of one copy. -/
abbrev N : ℕ := cM.view.dmaCredit
theorem N_pos : 0 < N := View.dmaCredit_pos _ (by decide)
theorem slot_credit (j : Fin 3) : (slotM j).view.dmaCredit = N := by fin_cases j <;> rfl

/-- What a duty on a cell of this number pays. -/
def amt (k : Fin 8) : ℕ := if k.val < 2 then 1 else N
theorem amt_pos (k : Fin 8) : 0 < amt k := by unfold amt; split; · exact Nat.one_pos
                                              · exact N_pos

/-! ## The contents -/

/-- Device `c`'s block of `x`. -/
def xAt (c : Dev nD) : (cc0_stg0_0 : Ref sig .tc).ty.Contents (Elt F) :=
  (win0_0.blk (0 : Fin 1)).view.read (Elt F) ((s₀ m ρ).mem ((c : Thread nD τ).loc main_arg0))

/-- `n` slices of a block from slice `j` on. -/
def slices (x : (cc0_stg0_0 : Ref sig .tc).ty.Contents (Elt F)) : (j n : Nat) → j + n ≤ 32 → List (FVec F S512x128 .f32)
  | _, 0, _ => []
  | j, n + 1, h => xM.view.readAt (Elt F) (sliceRect j (by omega)).toLoadRect x :: slices x (j + 1) n (by omega)

/-- Device `c`'s candidates. -/
def candAt (c : Dev nD) : (cc0_scratch0 : Ref sig .tc).ty.Contents (Elt F) := localTop (slices (xAt m ρ c) 0 32 (Nat.le_refl _))

/-- Device `c`'s result: the sixteen of the four devices' candidates. -/
def outAt (c : Dev nD) : (cc0_stg1_0 : Ref sig .tc).ty.Contents (Elt F) :=
  rowTops reduces_S512x64_S512 broadcasts_S512x1_S512x64
    (concatenate S512x64 1 [⟨S512x16, candAt m ρ c⟩, ⟨S512x16, candAt m ρ (peer 0 c)⟩, ⟨S512x16, candAt m ρ (peer 1 c)⟩, ⟨S512x16, candAt m ρ (peer 2 c)⟩]
      concatenates_S512x16_S512x16_S512x16_S512x16_S512x64_d1)

/-- Slot `j` of device `c`'s landing buffer, held at contents `f` of the buffer. -/
def slotPts (j : Fin 3) (c : Dev nD) (f : (cc0_scratch1 : Ref sig .tc).ty.Contents (Elt F)) : sProp 𝕄 :=
  ((c : Thread nD τ).loc cc0_scratch1) ↦[(slotM j).view.set]{fullShare} f

/-- The `j`-th third share of device `c`'s candidates. -/
def candPts (j : Fin 3) (c : Dev nD) : sProp 𝕄 := ((c : Thread nD τ).loc cc0_scratch0) ↦[cM.view.set]{Ring.shares3 fullShare j} candAt m ρ c

/-- Slot `j` of device `c`, holding peer `j`'s candidates. -/
def landPts (j : Fin 3) (c : Dev nD) : sProp 𝕄 :=
  iprop(∃ f, ⌜(slotM j).view.read (Elt F) f = candAt m ρ (peer j c)⌝ ∗ slotPts j c f)

instance slotPts_storable (j : Fin 3) (c : Dev nD) (f) : BI.Storable (upEmb : UEmb _ 𝕄) (slotPts (F := F) j c f) := by unfold slotPts; infer_instance
instance candPts_storable (j : Fin 3) (c : Dev nD) : BI.Storable (upEmb : UEmb _ 𝕄) (candPts (F := F) m ρ j c) := by unfold candPts; infer_instance
instance landPts_storable (j : Fin 3) (c : Dev nD) : BI.Storable (upEmb : UEmb _ 𝕄) (landPts (F := F) m ρ j c) := by unfold landPts; infer_instance

/-! ## The schedule -/

/-- What duty `d` on cell `k` of device `c` hands `c`. -/
def pay (k : Fin 8) (c : Dev nD) (d : Fin 3) : sProp 𝕄 := match k with
  | 0 => iprop(∃ f, slotPts d (peer d c) f)
  | 1 => iprop(emp)
  | 2 => candPts m ρ 0 c | 3 => candPts m ρ 1 c | 4 => candPts m ρ 2 c
  | 5 => landPts m ρ 0 c | 6 => landPts m ρ 1 c | 7 => landPts m ρ 2 c

instance pay_storable (k : Fin 8) (c : Dev nD) (d : Fin 3) : BI.Storable (upEmb : UEmb _ 𝕄) (pay (F := F) m ρ k c d) := by
  unfold pay; split <;> infer_instance

theorem pay_sK (j : Fin 3) (c : Dev nD) (d : Fin 3) : pay (F := F) m ρ (sK j) c d = candPts m ρ j c := by fin_cases j <;> rfl
theorem pay_rK (j : Fin 3) (c : Dev nD) (d : Fin 3) : pay (F := F) m ρ (rK j) c d = landPts m ρ j c := by fin_cases j <;> rfl

/-- The duties on a cell: one per peer on the handshake cells, one on the others. -/
def dutiesOf (k : Fin 8) : Finset (Fin 3) := if k.val < 2 then Finset.univ else {0}

/-- One round on every cell. -/
def rd : Rounds.Schedule (GSem nD τ sig) (Fin 3) 𝕄 where
  duties g r := if r = 0 ∧ g.1.2 = .tc then (match kindOf g.2 with | some k => dutiesOf k | none => ∅) else ∅
  unitless _ := False
  amount g _ _ := match kindOf g.2 with | some k => amt k | none => 1
  payload g _ d := match kindOf g.2 with | some k => pay m ρ k g.1.1 d | none => iprop(emp)
  amount_pos g _ _ _ := by
    split
    · exact amt_pos _
    · exact Nat.one_pos

instance rd_payload_storable (g : GSem nD τ sig) (r : ℕ) (d : Fin 3) : BI.Storable (upEmb : UEmb _ 𝕄) ((rd (F := F) m ρ).payload g r d) := by
  show BI.Storable upEmb (match kindOf g.2 with | some k => pay m ρ k g.1.1 d | none => iprop(emp))
  split <;> infer_instance

theorem duties_cell (c : Dev nD) (k : Fin 8) : (rd (F := F) m ρ).duties (kcell (c, k)) 0 = dutiesOf k := by
  dsimp only [rd]; rw [if_pos ⟨rfl, rfl⟩, kindOf_csem]
theorem duties_later (g : GSem nD τ sig) : ∀ r, 1 ≤ r → (rd (F := F) m ρ).duties g r = ∅ :=
  fun r hr => by dsimp only [rd]; rw [if_neg fun h => by omega]
theorem amount_cell (c : Dev nD) (k : Fin 8) (d : Fin 3) : (rd (F := F) m ρ).amount (kcell (c, k)) 0 d = amt k := by
  dsimp only [rd]; rw [kindOf_csem]
theorem payload_cell (c : Dev nD) (k : Fin 8) (d : Fin 3) : (rd (F := F) m ρ).payload (kcell (c, k)) 0 d = pay m ρ k c d := by
  dsimp only [rd]; rw [kindOf_csem]

/-- What a wait on cell `k` takes: three units, or the copy's credit. -/
def total (k : Fin 8) : ℕ := if k.val < 2 then 3 else N

theorem expect_cell (c : Dev nD) (k : Fin 8) : (rd (F := F) m ρ).expect (kcell (c, k)) 0 = total k := by
  unfold Schedule.expect Schedule.amountOf
  rw [duties_cell, Finset.sum_congr rfl fun d _ => amount_cell m ρ c k d]
  unfold dutiesOf amt total
  split
  · rw [Finset.sum_const, Finset.card_univ, Fintype.card_fin]; rfl
  · rw [Finset.sum_singleton]

/-- What a wait on a handshake cell hands over: the three duties' payloads. -/
theorem rest_hand (c : Dev nD) (k : Fin 8) (hk : k.val < 2) :
    bigSep ((rd (F := F) m ρ).duties (kcell (c, k)) 0 \ ∅) (fun d => (rd (F := F) m ρ).payload (kcell (c, k)) 0 d)
      = iprop(pay m ρ k c 0 ∗ pay m ρ k c 1 ∗ pay m ρ k c 2) := by
  rw [Finset.sdiff_empty, duties_cell, dutiesOf, if_pos hk, bigSep_univ_eq_bigSepL [0, 1, 2] (by decide) (by decide), bigSepL_cons_cons, bigSepL_cons_cons,
    bigSepL_singleton, payload_cell, payload_cell, payload_cell]
  rfl
/-- What a wait on a copy's cell hands over. -/
theorem rest_copy (c : Dev nD) (k : Fin 8) (hk : ¬ k.val < 2) :
    bigSep ((rd (F := F) m ρ).duties (kcell (c, k)) 0 \ ∅) (fun d => (rd (F := F) m ρ).payload (kcell (c, k)) 0 d) = pay m ρ k c 0 := by
  rw [Finset.sdiff_empty, duties_cell, dutiesOf, if_neg hk, bigSep_singleton, payload_cell]

/-! ## What a device owes, and the ranks -/

/-- The sum of the listed debts, each one duty's amount on the cell named. -/
def debt : List (Dev nD × Fin 8) → CellTallies nD τ sig Unit
  | [] => 0
  | p :: l => debt l + tallyAt (kcell p) () (amt p.2)

theorem debt_cons (p : Dev nD × Fin 8) (l : List (Dev nD × Fin 8)) : debt (p :: l) = debt l + tallyAt (kcell p) () (amt p.2) := rfl

/-- What is owed is owed on a listed cell. -/
theorem debt_pos {g : GSem nD τ sig} {u : Unit} : ∀ {l : List (Dev nD × Fin 8)}, 0 < debt l g u → ∃ p ∈ l, g = kcell p
  | [], h => absurd h (Nat.lt_irrefl 0)
  | p :: l, h => by
    by_cases hg : g = kcell p
    · exact ⟨p, List.mem_cons_self, hg⟩
    · rw [debt_cons, Pi.add_apply, Finsupp.add_apply, tallyAt_apply, if_neg (fun h' => hg h'.1), Nat.add_zero] at h
      obtain ⟨q, hq, e⟩ := debt_pos h
      exact ⟨q, List.mem_cons_of_mem _ hq, e⟩

/-- What device `c` owes at launch, in the order it pays: its signals at the entry, its copies, its signals at the exit. -/
def exits (c : Dev nD) : List (Dev nD × Fin 8) := [(peer 0 c, 1), (peer 1 c, 1), (peer 2 c, 1)]
def copies (c : Dev nD) : List (Dev nD × Fin 8) := (peer 0 c, rK 0) :: (peer 1 c, rK 1) :: (peer 2 c, rK 2) :: exits c
def owed (c : Dev nD) : List (Dev nD × Fin 8) := (peer 0 c, 0) :: (peer 1 c, 0) :: (peer 2 c, 0) :: copies c

/-- The rank of a cell number. -/
def rankOf (k : Fin 8) : ℕ := (![1, 3, 0, 0, 0, 2, 2, 2] : Fin 8 → ℕ) k
def L (g : GSem nD τ sig) : Finset Unit := if g.1.2 = .tc then {()} else ∅
/-- The rank of a cell, zero for the block transfers' own. -/
def lv (g : GSem nD τ sig) (_ : Unit) : ℕ := match kindOf g.2 with | some k => rankOf k | none => 0

theorem L_of_ne (g : GSem nD τ sig) (h : g.1.2 ≠ .tc) : L g = ∅ := if_neg h
theorem L_tc (c : Dev nD) (sm : SemLoc sig) : L ((c : Thread nD τ), sm) = {()} := if_pos rfl
theorem lv_kcell (p : Dev nD × Fin 8) (u : Unit) : lv (kcell p) u = rankOf p.2 := by
  unfold lv; rw [show (kcell p).2 = csem p.2 from rfl, kindOf_csem]

/-- A device may wait on a semaphore while everything it owes ranks above it. -/
theorem mayWait (c : Dev nD) (sm : SemLoc sig) (l : List (Dev nD × Fin 8)) (h : ∀ p ∈ l, lv ((c : Thread nD τ), sm) () < rankOf p.2) :
    (levAts L lv : sProp 𝕄) ⊢ MayWait (c : Thread nD τ) sm () (debt l) :=
  MayOwe.of_cut (L := L) (lev := lv) (lv ((c : Thread nD τ), sm) ()) (fun p hp => by rw [Finset.mem_singleton.mp hp, L_tc]; exact Finset.mem_singleton_self _)
    (fun g u hg => by obtain ⟨p, -, rfl⟩ := debt_pos hg; exact Finset.mem_singleton_self _)
    (fun p hp => by rw [Finset.mem_singleton.mp hp])
    (fun g u hg => by obtain ⟨p, hp, rfl⟩ := debt_pos hg; rw [lv_kcell]; exact h p hp)

/-! ## The ghost state -/

/-- The invariants of every device's cells, at the names `K`, and that each cell is at its first round. -/
def records (K : Dev nD × Fin 8 → ℕ) : sProp 𝕄 :=
  iprop((bigSep Finset.univ fun ck : Dev nD × Fin 8 => cellInv EX (rd m ρ) (K ck) (kcell ck))
    ∗ bigSep Finset.univ fun ck : Dev nD × Fin 8 => reached EX (kcell ck) 0)

instance records_persistent (K : Dev nD × Fin 8 → ℕ) : BI.Persistent (records m ρ K) := by unfold records; infer_instance

theorem inv_at (K : Dev nD × Fin 8 → ℕ) (ck : Dev nD × Fin 8) : records m ρ K ⊢ cellInv EX (rd m ρ) (K ck) (kcell ck) := by
  unfold records
  iintro ⟨H, -⟩
  iapply (show (bigSep Finset.univ fun ck : Dev nD × Fin 8 => (cellInv EX (rd m ρ) (K ck) (kcell ck) : sProp 𝕄)) ⊢ cellInv EX (rd m ρ) (K ck) (kcell ck)
    from bigSep_elim (Finset.mem_univ ck)); iexact H
theorem reached_at (K : Dev nD × Fin 8 → ℕ) (ck : Dev nD × Fin 8) : records m ρ K ⊢ reached EX (kcell ck) 0 := by
  unfold records
  iintro ⟨-, H⟩
  iapply (show (bigSep Finset.univ fun ck : Dev nD × Fin 8 => (reached EX (kcell ck) 0 : sProp 𝕄)) ⊢ reached EX (kcell ck) 0
    from bigSep_elim (Finset.mem_univ ck)); iexact H

/-- Device `c` at the first round of its eight cells. -/
def places (c : Dev nD) : sProp 𝕄 := bigSep Finset.univ fun k : Fin 8 => atPos EX (kcell (c, k)) 0 ∅ 0

/-- The tokens of the duties device `c` pays on account of peer `j`. -/
def payToks (j : Fin 3) (c : Dev nD) : sProp 𝕄 :=
  iprop(dutyTok EX (kcell (peer j c, 0)) 0 j ∗ dutyTok EX (kcell (peer j c, 1)) 0 j ∗ dutyTok EX (kcell (peer j c, rK j)) 0 0 ∗ dutyTok EX (kcell (c, sK j)) 0 0)

/-- Everything device `c` starts from but its buffers. -/
def start (c : Dev nD) : sProp 𝕄 :=
  iprop((∃ K, records m ρ K) ∗ places c ∗ (payToks 0 c ∗ payToks 1 c ∗ payToks 2 c)
    ∗ (cred (tallyAt (kcell (c, 0)) () 3) ∗ cred (tallyAt (kcell (c, 1)) () 3)
      ∗ cred (tallyAt (kcell (c, 5)) () N) ∗ cred (tallyAt (kcell (c, 6)) () N) ∗ cred (tallyAt (kcell (c, 7)) () N))
    ∗ levAts L lv)

end Cert.TopK

end
-- ==== Proof.Exec.lean ====
/-
The run of one device's body under the protocol: one rule for each kind of step, then the whole body.
-/
module

public import proofs.«01_k».proof.Proof.Protocol
public import Idealize.ShloMosaic.Lib.Tactic

@[expose] public section

noncomputable section

namespace Cert.TopK

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- Device `c` may run `p` to a result satisfying `Q`. -/
abbrev runs {α : Type} (c : Dev nD) (p : TcProg F α) (Q : α → sProp 𝕄) : sProp 𝕄 :=
  wp frame (wpE (defs₀ (F := F)) 𝒱₀ (c : Thread nD τ) none) Set.univ p Q

/-! ## The landing buffer's slots -/

/-- The elements of slot `j`. -/
def slotIx (j : Fin 3) : Finset ((cc0_scratch1 : Ref sig .tc).ty.Idx) := (slotM j).view.set

theorem slot_set (j : Fin 3) : (slotM j).view.set = (slotRect j).set :=
  (View.set_reshape _ _).trans (View.set_slice_whole cc0_scratch1 (slotRect j))

theorem slot_disjoint (j j' : Fin 3) (h : j ≠ j') : Disjoint (slotIx j) (slotIx j') := by
  rw [show slotIx j = (slotRect j).set from slot_set j, show slotIx j' = (slotRect j').set from slot_set j']
  exact Ring.lead_disjoint (s := S3x512x16) (0 : Fin 3) 1 (fun b => ![b.val, 0, 0]) S1x512x16.size slot_inb (by decide) (by decide) j j' h

theorem slot_cover :
    (Finset.univ : Finset (Fin 3)).biUnion (fun j => slotIx j) = Finset.univ := by
  rw [Finset.biUnion_congr rfl fun j _ => show slotIx j = (slotRect j).set from slot_set j]
  exact Ring.lead_cover (s := S3x512x16) (0 : Fin 3) 1 (fun b => ![b.val, 0, 0]) S1x512x16.size slot_inb (by decide) (by decide) (by decide) (by decide) (by decide)

theorem slots_fin3 (Φ : Fin 3 → sProp 𝕄) : bigSep Finset.univ Φ = iprop(Φ 0 ∗ Φ 1 ∗ Φ 2) := bigSep_univ_eq_bigSepL [0, 1, 2] (by decide) (by decide) Φ

/-- The landing buffer is its three slots. -/
theorem slots_split (c : Dev nD) (f : (cc0_scratch1 : Ref sig .tc).ty.Contents (Elt F)) :
    (((c : Thread nD τ).loc cc0_scratch1) ↦{fullShare} f : sProp 𝕄) = iprop(slotPts 0 c f ∗ slotPts 1 c f ∗ slotPts 2 c f) := by
  refine (Ring.pointsTo_blocks (ℓ := (c : Thread nD τ).loc cc0_scratch1) slotIx slot_disjoint slot_cover f).trans ?_
  rw [slots_fin3]
  rfl

/-- Contents agreeing on a view's elements are read alike. -/
theorem read_congr {κ : Kind} {sp : Space} {s : Shape} {e : EltTy} (v : View sig κ sp s e) {f g : v.ty.Contents (Elt F)}
    (h : ∀ i ∈ v.set, f i = g i) : v.read (Elt F) f = v.read (Elt F) g := by
  funext x
  rw [View.read_apply, View.read_apply, h _ (View.emb_mem_set v x)]

/-- The three slots, each holding its peer's candidates, are the landing buffer holding all three. -/
theorem slots_join (c : Dev nD) :
    iprop(landPts m ρ 0 c ∗ landPts m ρ 1 c ∗ landPts m ρ 2 c)
      ⊢ (iprop(∃ g, ⌜∀ j, (slotM j).view.read (Elt F) g = candAt m ρ (peer j c)⌝ ∗ (((c : Thread nD τ).loc cc0_scratch1) ↦{fullShare} g)) : sProp 𝕄) := by
  unfold landPts
  iintro ⟨⟨%f0, %h0, H0⟩, ⟨%f1, %h1, H1⟩, ⟨%f2, %h2, H2⟩⟩
  ihave H := (pointsTo_biUnion_join (q := fullShare) (ℓ := (c : Thread nD τ).loc cc0_scratch1) Finset.univ slotIx
    (fun j => match j with | 0 => f0 | 1 => f1 | 2 => f2) f0 (fun j _ j' _ h => slot_disjoint j j' h)) $$ [H0 H1 H2]
  · rw [slots_fin3]
    unfold slotPts
    isplitl [H0]; · iexact H0
    isplitl [H1]; · iexact H1
    iexact H2
  icases H with ⟨%g, %hg, H⟩
  rw [slot_cover]
  iexists g
  isplitr
  · ipureintro
    intro j
    fin_cases j
    · exact (read_congr (slotM 0).view fun i hi => hg 0 (Finset.mem_univ _) i hi).trans h0
    · exact (read_congr (slotM 1).view fun i hi => hg 1 (Finset.mem_univ _) i hi).trans h1
    · exact (read_congr (slotM 2).view fun i hi => hg 2 (Finset.mem_univ _) i hi).trans h2
  · iexact H

/-- Loading a slot through the whole buffer, its unit axis dropped, reads the slot. -/
theorem load_slot (j : Fin 3) (g : (cc0_scratch1 : Ref sig .tc).ty.Contents (Elt F)) :
    shapeCast S512x16 (gM.view.readAt (Elt F) (slotRect j).toLoadRect g) shapeCasts_S1x512x16_S512x16 = (slotM j).view.read (Elt F) g := rfl

/-- The candidates' buffer, held whole, is its three thirds. -/
theorem cand_thirds (c : Dev nD) :
    (((c : Thread nD τ).loc cc0_scratch0) ↦{fullShare} candAt m ρ c : sProp 𝕄) ⊣⊢ iprop(candPts m ρ 0 c ∗ candPts m ρ 1 c ∗ candPts m ρ 2 c) := by
  unfold candPts
  rw [View.set_whole]
  exact Ring.pointsTo_thirds fullShare _

/-! ## The steps -/

section Steps

variable (K : Dev nD × Fin 8 → ℕ) {α : Type} {k : PUnit → TcProg F α}

/-- Signalling peer `j` at the entry: its duty `j` there is paid with slot `j` of one's own landing buffer. -/
theorem step_enter {Q : α → sProp 𝕄} (c : Dev nD) (j : Fin 3) (l : List (Dev nD × Fin 8)) (W : Waits sig Unit) (f : (cc0_scratch1 : Ref sig .tc).ty.Contents (Elt F)) :
    iprop(records m ρ K ∗ owes (c : Thread nD τ) (debt ((peer j c, 0) :: l)) W ∗ dutyTok EX (kcell (peer j c, 0)) 0 j ∗ slotPts j c f)
      ⊢ iprop((owes (c : Thread nD τ) (debt l) W -∗ runs c (k ⟨⟩) Q) -∗ runs c (.op (.semSignal (peer j c, .tc) barS (1#32 : BitVec 32).toInt) k) Q) := by
  iintro ⟨#HR, HO, Ht, Hs⟩
  iapply (Rounds.wp_signal 𝒱₀ EX (rd m ρ) (c : Thread nD τ) none (dst := (peer j c : Thread nD τ)) (κ := K (peer j c, 0)) (d := j)
    (by rw [duties_cell m ρ (peer j c) 0]; exact Finset.mem_univ _) ((amount_cell m ρ (peer j c) 0 j).trans (by decide)) () (debt l) rfl)
  isplitr; · iapply (inv_at m ρ K (peer j c, 0)); iexact HR
  isplitl [HO]; · iexact HO
  isplitl [Ht]; · iexact Ht
  isplitl [Hs]
  · rw [payload_cell m ρ (peer j c) 0 j]
    unfold pay
    iexists f
    rw [peer_peer]
    iexact Hs
  · iapply (reached_at m ρ K (peer j c, 0)); iexact HR

/-- Signalling peer `j` at the exit. -/
theorem step_leave {Q : α → sProp 𝕄} (c : Dev nD) (j : Fin 3) (l : List (Dev nD × Fin 8)) (W : Waits sig Unit) :
    iprop(records m ρ K ∗ owes (c : Thread nD τ) (debt ((peer j c, 1) :: l)) W ∗ dutyTok EX (kcell (peer j c, 1)) 0 j)
      ⊢ iprop((owes (c : Thread nD τ) (debt l) W -∗ runs c (k ⟨⟩) Q) -∗ runs c (.op (.semSignal (peer j c, .tc) exitS (1#32 : BitVec 32).toInt) k) Q) := by
  iintro ⟨#HR, HO, Ht⟩
  iapply (Rounds.wp_signal 𝒱₀ EX (rd m ρ) (c : Thread nD τ) none (dst := (peer j c : Thread nD τ)) (κ := K (peer j c, 1)) (d := j)
    (by rw [duties_cell m ρ (peer j c) 1]; exact Finset.mem_univ _) ((amount_cell m ρ (peer j c) 1 j).trans (by decide)) () (debt l) rfl)
  isplitr; · iapply (inv_at m ρ K (peer j c, 1)); iexact HR
  isplitl [HO]; · iexact HO
  isplitl [Ht]; · iexact Ht
  isplitr
  · rw [payload_cell m ρ (peer j c) 1 j]
    unfold pay
    iempintro
  · iapply (reached_at m ρ K (peer j c, 1)); iexact HR

/-- Waiting on an own cell for all of its round, while everything owed ranks above it: the cell's payloads come, and the cell can be closed. -/
theorem step_wait {Q : α → sProp 𝕄} (c : Dev nD) (i : Fin 8) {w : TpuEff nD τ sig (Elt F) Λ₀ .tc PUnit} (n : ℕ)
    (hw : ∀ P : PUnit → sProp 𝕄, wpE (defs₀ (F := F)) 𝒱₀ (c : Thread nD τ) none Set.univ w P = waitSpec (c : Thread nD τ) Set.univ (csem i) n P)
    (hn : n = total i) (l : List (Dev nD × Fin 8)) (hl : ∀ p ∈ l, rankOf i < rankOf p.2) (W : Waits sig Unit) :
    iprop(records m ρ K ∗ levAts L lv ∗ owes (c : Thread nD τ) (debt l) W ∗ cred (tallyAt (kcell (c, i)) () n) ∗ atPos EX (kcell (c, i)) 0 ∅ 0)
      ⊢ iprop(((owes (c : Thread nD τ) (debt l) (insert (csem i, ()) W) ∗ atPos EX (kcell (c, i)) (0 + 1) ∅ 0
            ∗ bigSep ((rd (F := F) m ρ).duties (kcell (c, i)) 0 \ ∅) (fun d => (rd (F := F) m ρ).payload (kcell (c, i)) 0 d)) -∗ runs c (k ⟨⟩) Q)
          -∗ runs c (.op w k) Q) := by
  iintro ⟨#HR, #Hlev, HO, Hc, Hat⟩ Hk
  iapply (Rounds.wp_wait_rest_token 𝒱₀ EX (rd m ρ) (c : Thread nD τ) none (κ := K (c, i)) hw (Set.mem_univ _) () (O := debt l) (W := W) (R := 0) (m := 0) (T := ∅)
    (by rw [Nat.zero_add, hn]; exact (expect_cell m ρ c i).symm)) $$ [HO Hc Hat]
  · isplitr; · iapply (inv_at m ρ K (c, i)); iexact HR
    isplitl [Hc]; · iexact Hc
    isplitl [HO]; · iexact HO
    isplitr
    · iapply (mayWait c (csem i) l fun p hp => by
        rw [show lv ((c : Thread nD τ), csem i) () = rankOf i from lv_kcell (c, i) ()]; exact hl p hp)
      iexact Hlev
    iexact Hat
  iintro ⟨HO, Hat, -, Hp⟩
  iapply Hk
  isplitl [HO]; · iexact HO
  isplitl [Hat]; · iexact Hat
  iexact Hp

/-- Starting the copy to peer `j`: a third of the candidates goes out, and peer `j`'s slot `j`, held since the entry, will hold them. -/
theorem step_copy {Q : α → sProp 𝕄} (c : Dev nD) (j : Fin 3) (l : List (Dev nD × Fin 8)) (W : Waits sig Unit) (f : (cc0_scratch1 : Ref sig .tc).ty.Contents (Elt F))
    {hsrc : cM.view.WordExact} {hdst : (slotM j).view.WordExact} {hsc : (slotM j).view.ref.isScScratch = false}
    {hsem : DmaTarget.Typed .vmem (.dma (recvS j)) (.remote (Dev.tc (peer j c) : Thread nD τ) (slotM j) (.dma (sendS j)) hsc)} :
    iprop(records m ρ K ∗ owes (c : Thread nD τ) (debt ((peer j c, rK j) :: l)) W ∗ candPts m ρ j c ∗ slotPts j (peer j c) f
        ∗ dutyTok EX (kcell (c, sK j)) 0 0 ∗ dutyTok EX (kcell (peer j c, rK j)) 0 0)
      ⊢ iprop(((cred (tallyAt (kcell (c, sK j)) () N) ∗ owes (c : Thread nD τ) (debt l) W) -∗ runs c (k ⟨⟩) Q)
          -∗ runs c (.op (.enqueueDma cM (.remote (Dev.tc (peer j c) : Thread nD τ) (slotM j) (.dma (sendS j)) hsc) (.dma (recvS j)) hsrc hdst hsem) k) Q) := by
  have hs := kcell_sK c j
  have hr := kcell_rK (peer j c) j
  have a1 := amount_cell m ρ c (sK j) 0
  have a2 := amount_cell m ρ (peer j c) (rK j) 0
  have d1 := duties_cell m ρ c (sK j)
  have d2 := duties_cell m ρ (peer j c) (rK j)
  have p1 := (payload_cell m ρ c (sK j) 0).trans (pay_sK m ρ j c 0)
  have p2 := (payload_cell m ρ (peer j c) (rK j) 0).trans (pay_rK m ρ j (peer j c) 0)
  have i1 := inv_at m ρ K (c, sK j)
  have i2 := inv_at m ρ K (peer j c, rK j)
  have r1 := reached_at m ρ K (c, sK j)
  have r2 := reached_at m ρ K (peer j c, rK j)
  have hd : debt ((peer j c, rK j) :: l) = debt l + tallyAt (kcell (peer j c, rK j)) () N := by
    rw [debt_cons]; congr 1
  have n1 : amt (sK j) = N := by unfold amt; rw [if_neg (by show ¬ j.val + 2 < 2; omega)]
  have n2 : amt (rK j) = N := by unfold amt; rw [if_neg (by show ¬ j.val + 5 < 2; omega)]
  have m1 : (0 : Fin 3) ∈ dutiesOf (sK j) := by unfold dutiesOf; rw [if_neg (by show ¬ j.val + 2 < 2; omega)]; exact Finset.mem_singleton_self _
  have m2 : (0 : Fin 3) ∈ dutiesOf (rK j) := by unfold dutiesOf; rw [if_neg (by show ¬ j.val + 5 < 2; omega)]; exact Finset.mem_singleton_self _
  rw [hd]
  rw [hs] at a1 d1 p1 i1 r1 ⊢
  rw [hr] at a2 d2 p2 i2 r2 ⊢
  iintro ⟨#HR, HO, Hc, Hs, Ht1, Ht2⟩
  unfold candPts slotPts
  iapply (Rounds.wp_send_pointsTo 𝒱₀ EX (rd m ρ) (c : Thread nD τ) none (c' := (peer j c : Thread nD τ)) (κ₁ := K (c, sK j)) (κ₂ := K (peer j c, rK j))
    (r₁ := 0) (r₂ := 0) (d₁ := 0) (d₂ := 0) (q := Ring.shares3 fullShare j) (fs := candAt m ρ c) (fd := f) (src := cM) (dst := slotM j) (sS := .dma (sendS j)) (sem := .dma (recvS j))
    (by rw [d1]; exact m1) (by rw [d2]; exact m2) () () N (slot_credit j) (a1.trans n1) (a2.trans n2) (debt l) rfl (W := W)
    (by rw [p1]; unfold candPts; exact BI.Entails.refl _)
    (by
      rw [p2]; unfold landPts slotPts
      iintro H
      iexists ((slotM j).view.write (Elt F) f (cM.view.read (Elt F) (candAt m ρ c)) Finset.univ)
      isplitr
      · ipureintro
        rw [peer_peer, View.read_write_univ]
        exact View.read_whole _ _
      · iexact H))
  isplitr; · iapply i1; iexact HR
  isplitr; · iapply i2; iexact HR
  isplitl [Hc]; · iexact Hc
  isplitl [Hs]; · iexact Hs
  isplitl [HO]; · iexact HO
  isplitl [Ht1]; · iexact Ht1
  isplitr; · iapply r1; iexact HR
  isplitl [Ht2]; · iexact Ht2
  iapply r2; iexact HR

/-- Reading the slices. -/
theorem step_slices {Q : α → sProp 𝕄} (c : Dev nD) (x : (cc0_stg0_0 : Ref sig .tc).ty.Contents (Elt F)) (n : ℕ) : ∀ (j : ℕ) (h : j + n ≤ 32) (k : List (FVec F S512x128 .f32) → TcProg F α),
    (((c : Thread nD τ).loc cc0_stg0_0) ↦{fullShare} x : sProp 𝕄)
      ⊢ iprop(((((c : Thread nD τ).loc cc0_stg0_0) ↦{fullShare} x) -∗ runs c (k (slices x j n h)) Q) -∗ runs c (readSlices xM j n h k) Q) := by
  induction n with
  | zero =>
    intro j h k
    iintro H Hk
    iapply Hk
    iexact H
  | succ n ih =>
    intro j h k
    have h0 : j < 32 := by omega
    have h1 : j + 1 + n ≤ 32 := by omega
    iintro H Hk
    unfold readSlices slices
    iapply (wp_load 𝒱₀ (c : Thread nD τ) none Set.univ (m := xM) (Finset.subset_univ _)) $$ H; iintro H
    iapply (ih (j + 1) h1 fun l => k (xM.view.readAt (Elt F) (sliceRect j h0).toLoadRect x :: l)) $$ H
    iexact Hk

end Steps

end Cert.TopK

end
-- ==== Proof.Sound.lean ====
/-
One device's body, run from what the launch hands it to what it hands back.
-/
module

public import proofs.«01_k».proof.Proof.Exec
public import proofs.«01_k».proof.Proof.Gen.KernelIdeal.Launch
public import Idealize.ShloMosaic.Lib.Pipeline.Launch
public import Idealize.ShloMosaic.Lib.Pipeline.Kit

@[expose] public section

noncomputable section

namespace Cert.TopK

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- What a device starts from, with its two scratch buffers. -/
def before (c : Dev nD) : sProp 𝕄 :=
  iprop(start m ρ c ∗ (∃ f, ((c : Thread nD τ).loc cc0_scratch0) ↦{fullShare} f) ∗ (∃ f, ((c : Thread nD τ).loc cc0_scratch1) ↦{fullShare} f))

/-- What it ends with: its scratch buffers, and its eight counters at zero. -/
def after (c : Dev nD) : sProp 𝕄 :=
  iprop((∃ f, ((c : Thread nD τ).loc cc0_scratch0) ↦{fullShare} f) ∗ (∃ f, ((c : Thread nD τ).loc cc0_scratch1) ↦{fullShare} f)
    ∗ bigSep Finset.univ fun k : Fin 8 => semVal (kcell (c, k)) 0)

/-- The windows' contents, what the body holds and owes before and after the one point of the grid. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xAt m ρ c
    | ⟨1, _⟩ => outAt m ρ c
  Φ t := match t with
    | ⟨0, _⟩ => before m ρ c
    | ⟨_ + 1, _⟩ => after c
  q _ := fullShare
  owed t := match t with
    | ⟨0, _⟩ => debt (owed c)
    | ⟨_ + 1, _⟩ => 0

theorem fetch_x (t : Fin cfg0.N) : (cfg0.win (0 : Fin 2)).fetch t = true := by rw [fin_N0 t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

theorem eight (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

theorem zero2 : (![0, 0] : Fin 2 → Nat) = fun _ => 0 := funext fun a => by fin_cases a <;> rfl

theorem load_cand (f : (cc0_scratch0 : Ref sig .tc).ty.Contents (Elt F)) : cM.view.readAt (Elt F) allRect.toLoadRect f = f :=
  Memref.readAt_unit_zero (Elt F) cc0_scratch0 zero2 _ f
theorem store_cand (f w : (cc0_scratch0 : Ref sig .tc).ty.Contents (Elt F)) : (cM.access allRect : View sig .tc _ _ _).write (Elt F) f w Finset.univ = w :=
  Memref.write_access_unit_zero_univ (Elt F) cc0_scratch0 zero2 _ f w
theorem store_out (f w : (cc0_stg1_0 : Ref sig .tc).ty.Contents (Elt F)) : (oM.access allRect : View sig .tc _ _ _).write (Elt F) f w Finset.univ = w :=
  Memref.write_access_unit_zero_univ (Elt F) cc0_stg1_0 zero2 _ f w

/-- The merge of one's own candidates with the three landed is the result. -/
theorem merge_landed (c : Dev nD) (g : (cc0_scratch1 : Ref sig .tc).ty.Contents (Elt F))
    (hg : ∀ j, (slotM j).view.read (Elt F) g = candAt m ρ (peer j c)) :
    mergeTop (candAt m ρ c) (gM.view.readAt (Elt F) (slotRect 0).toLoadRect g) (gM.view.readAt (Elt F) (slotRect 1).toLoadRect g)
      (gM.view.readAt (Elt F) (slotRect 2).toLoadRect g) = outAt m ρ c := by
  unfold mergeTop joined outAt
  rw [load_slot, load_slot, load_slot, hg 0, hg 1, hg 2]

/-- A cell past its round is closed: its counter, at zero, is the device's again. -/
theorem close (K : Dev nD × Fin 8 → ℕ) (c : Dev nD) (i : Fin 8) :
    iprop(records m ρ K ∗ atPos EX (kcell (c, i)) (0 + 1) ∅ 0) ⊢ (|={Set.univ}=> semVal (kcell (c, i)) 0 : sProp 𝕄) := by
  iintro ⟨#HR, H⟩
  iapply (Rounds.cell_close EX (rd m ρ) (Set.mem_univ (K (c, i))) (fun h => h) (R := 0 + 1) (duties_later m ρ (kcell (c, i))))
  isplitr; · iapply (inv_at m ρ K (c, i)); iexact HR
  iexact H

abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def bodyPre (c : Dev nD) : sProp 𝕄 :=
  iprop(before m ρ c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

def bodyPost (c : Dev nD) : sProp 𝕄 :=
  iprop(after c ∗ (dats m ρ 0 c).owesAt () t0_0.succ ∗ stg c cc0_stg0_0 (xAt m ρ c) ∗ stg c cc0_stg1_0 (outAt m ρ c))

theorem total_hand (k : Fin 8) (h : k.val < 2) : 3 = total k := by unfold total; rw [if_pos h]
theorem total_copy (k : Fin 8) (h : ¬ k.val < 2) : N = total k := by unfold total; rw [if_neg h]

/-- Owing nothing, whatever was waited on. -/
theorem owes_done (c : Dev nD) (W : Waits sig Unit) : owes (c : Thread nD τ) (0 : CellTallies nD τ sig Unit) W ⊢ ((dats m ρ 0 c).owesAt () t0_0.succ : sProp 𝕄) := by
  unfold Dat.owesAt Pipeline.owesWithin
  rw [show (dats m ρ 0 c).owed t0_0.succ = 0 from rfl]
  iintro HO
  iexists W
  isplitr; · ipureintro; exact fun _ _ => Or.inl trivial
  iexact HO

theorem exits_rank (c : Dev nD) (i : Fin 8) (hi : rankOf i < 3) : ∀ p ∈ exits c, rankOf i < rankOf p.2 := by
  intro p hp; unfold exits at hp; fin_cases hp <;> exact hi
theorem copies_rank (c : Dev nD) : ∀ p ∈ copies c, rankOf 0 < rankOf p.2 := by
  intro p hp
  unfold copies exits at hp
  fin_cases hp <;> first
    | exact (by decide : rankOf 0 < rankOf 5) | exact (by decide : rankOf 0 < rankOf 6) | exact (by decide : rankOf 0 < rankOf 7)
    | exact (by decide : rankOf 0 < rankOf 1)

set_option maxHeartbeats 1600000 in
/-- The body runs from `bodyPre` to `bodyPost`. -/
theorem sound_body (c : Dev nD) : bodyPre m ρ c ⊢ runs c (printed (F := F)) (fun _ => bodyPost m ρ c) := by
  rw [printed_eq_peers]
  unfold main runs
  simp only [semSignalWord, semWaitWord, Prog.lift, Prog.bind_op, Prog.bind_ret, Prog.pure_eq_ret, wp_deviceId]
  unfold bodyPre before start places payToks
  rw [eight]
  iintro ⟨⟨⟨⟨%K, #HR⟩, ⟨A0, A1, A2, A3, A4, A5, A6, A7⟩, ⟨⟨B0, E0, V0, S0⟩, ⟨B1, E1, V1, S1⟩, ⟨B2, E2, V2, S2⟩⟩, ⟨C0, C1, C5, C6, C7⟩, #Hlev⟩,
    ⟨%fc, Hc⟩, ⟨%fl, Hl⟩⟩, Ho, ⟨%d0, %g0, %hg0, Hx⟩, ⟨%d1, %g1, %hg1, Hout⟩⟩
  have hx : g0 = xAt m ρ c := by rw [hg0]; unfold Dat.before; rw [if_pos (fetch_x t0_0)]; rfl
  subst hx
  unfold Dat.owesAt Pipeline.owesWithin
  icases Ho with ⟨%W, %hW, HO⟩
  rw [show (dats m ρ 0 c).owed t0_0.castSucc = debt (owed c) from rfl]
  unfold owed
  -- the entry: one's own slots go to the peers, theirs come
  ihave Hsl := (Entails.of_eq (slots_split c fl)) $$ Hl
  icases Hsl with ⟨L0, L1, L2⟩
  iapply (step_enter m ρ K c 0 _ W fl) $$ [HO B0 L0]
  · isplitr; · iexact HR
    isplitl [HO]; · iexact HO
    isplitl [B0] <;> iassumption
  iintro HO
  iapply (step_enter m ρ K c 1 _ W fl) $$ [HO B1 L1]
  · isplitr; · iexact HR
    isplitl [HO]; · iexact HO
    isplitl [B1] <;> iassumption
  iintro HO
  iapply (step_enter m ρ K c 2 _ W fl) $$ [HO B2 L2]
  · isplitr; · iexact HR
    isplitl [HO]; · iexact HO
    isplitl [B2] <;> iassumption
  iintro HO
  iapply (step_wait m ρ K c 0 _ (wpE_semWait_eq 𝒱₀ (c : Thread nD τ) none Set.univ) (total_hand 0 (by decide)) (copies c)
    (copies_rank c) W) $$ [HO C0 A0]
  · isplitr; · iexact HR
    isplitr; · iexact Hlev
    isplitl [HO]; · iexact HO
    isplitl [C0] <;> iassumption
  iintro ⟨HO, A0, Hp⟩
  ihave Hp := (Entails.of_eq (rest_hand m ρ c 0 (by decide))) $$ Hp
  unfold pay
  icases Hp with ⟨⟨%n0, P0⟩, ⟨%n1, P1⟩, ⟨%n2, P2⟩⟩
  -- the candidates
  iapply (step_slices c (xAt m ρ c) 32 0 (Nat.le_refl _) _) $$ Hx
  iintro Hx
  iapply (wp_load 𝒱₀ (c : Thread nD τ) none Set.univ (m := cM) (Finset.subset_univ _)) $$ Hc; iintro Hc
  iapply (wp_store 𝒱₀ (c : Thread nD τ) none Set.univ (m := cM) (r := allRect) (Mk := Finset.univ) (Finset.subset_univ _)) $$ Hc; iintro Hc
  rw [store_cand]
  ihave Hc := (show ((View.loc (c : Thread nD τ) (cM.access allRect)) ↦{fullShare} localTop (slices (xAt m ρ c) 0 32 (Nat.le_refl _)) : sProp 𝕄) ⊢ _ from (cand_thirds m ρ c).1) $$ Hc
  icases Hc with ⟨T0, T1, T2⟩
  unfold copies
  iapply (step_copy m ρ K c 0 _ _ n0) $$ [HO T0 P0 S0 V0]
  · isplitr; · iexact HR
    isplitl [HO]; · iexact HO
    isplitl [T0]; · iexact T0
    isplitl [P0]; · iexact P0
    isplitl [S0] <;> iassumption
  iintro ⟨C2, HO⟩
  iapply (step_copy m ρ K c 1 _ _ n1) $$ [HO T1 P1 S1 V1]
  · isplitr; · iexact HR
    isplitl [HO]; · iexact HO
    isplitl [T1]; · iexact T1
    isplitl [P1]; · iexact P1
    isplitl [S1] <;> iassumption
  iintro ⟨C3, HO⟩
  iapply (step_copy m ρ K c 2 _ _ n2) $$ [HO T2 P2 S2 V2]
  · isplitr; · iexact HR
    isplitl [HO]; · iexact HO
    isplitl [T2]; · iexact T2
    isplitl [P2]; · iexact P2
    isplitl [S2] <;> iassumption
  iintro ⟨C4, HO⟩
  iapply (step_wait m ρ K c 2 _ (wpE_waitDma2_eq 𝒱₀ (c : Thread nD τ) none Set.univ) (total_copy 2 (by decide)) (exits c) (exits_rank c 2 (by decide)) _) $$ [HO C2 A2]
  · isplitr; · iexact HR
    isplitr; · iexact Hlev
    isplitl [HO]; · iexact HO
    isplitl [C2] <;> iassumption
  iintro ⟨HO, A2, T0⟩
  iapply (step_wait m ρ K c 5 _ (wpE_waitDma2_eq 𝒱₀ (c : Thread nD τ) none Set.univ) ((slot_credit 0).trans (total_copy 5 (by decide))) (exits c) (exits_rank c 5 (by decide)) _) $$ [HO C5 A5]
  · isplitr; · iexact HR
    isplitr; · iexact Hlev
    isplitl [HO]; · iexact HO
    isplitl [C5] <;> iassumption
  iintro ⟨HO, A5, L0⟩
  iapply (step_wait m ρ K c 3 _ (wpE_waitDma2_eq 𝒱₀ (c : Thread nD τ) none Set.univ) (total_copy 3 (by decide)) (exits c) (exits_rank c 3 (by decide)) _) $$ [HO C3 A3]
  · isplitr; · iexact HR
    isplitr; · iexact Hlev
    isplitl [HO]; · iexact HO
    isplitl [C3] <;> iassumption
  iintro ⟨HO, A3, T1⟩
  iapply (step_wait m ρ K c 6 _ (wpE_waitDma2_eq 𝒱₀ (c : Thread nD τ) none Set.univ) ((slot_credit 1).trans (total_copy 6 (by decide))) (exits c) (exits_rank c 6 (by decide)) _) $$ [HO C6 A6]
  · isplitr; · iexact HR
    isplitr; · iexact Hlev
    isplitl [HO]; · iexact HO
    isplitl [C6] <;> iassumption
  iintro ⟨HO, A6, L1⟩
  iapply (step_wait m ρ K c 4 _ (wpE_waitDma2_eq 𝒱₀ (c : Thread nD τ) none Set.univ) (total_copy 4 (by decide)) (exits c) (exits_rank c 4 (by decide)) _) $$ [HO C4 A4]
  · isplitr; · iexact HR
    isplitr; · iexact Hlev
    isplitl [HO]; · iexact HO
    isplitl [C4] <;> iassumption
  iintro ⟨HO, A4, T2⟩
  iapply (step_wait m ρ K c 7 _ (wpE_waitDma2_eq 𝒱₀ (c : Thread nD τ) none Set.univ) ((slot_credit 2).trans (total_copy 7 (by decide))) (exits c) (exits_rank c 7 (by decide)) _) $$ [HO C7 A7]
  · isplitr; · iexact HR
    isplitr; · iexact Hlev
    isplitl [HO]; · iexact HO
    isplitl [C7] <;> iassumption
  iintro ⟨HO, A7, L2⟩
  ihave T0 := (Entails.of_eq (rest_copy m ρ c 2 (by decide))) $$ T0
  ihave T1 := (Entails.of_eq (rest_copy m ρ c 3 (by decide))) $$ T1
  ihave T2 := (Entails.of_eq (rest_copy m ρ c 4 (by decide))) $$ T2
  ihave L0 := (Entails.of_eq (rest_copy m ρ c 5 (by decide))) $$ L0
  ihave L1 := (Entails.of_eq (rest_copy m ρ c 6 (by decide))) $$ L1
  ihave L2 := (Entails.of_eq (rest_copy m ρ c 7 (by decide))) $$ L2
  unfold pay
  ihave Hc := (cand_thirds m ρ c).2 $$ [T0 T1 T2]
  · isplitl [T0]; · iexact T0
    isplitl [T1] <;> iassumption
  ihave Hl := (slots_join m ρ c) $$ [L0 L1 L2]
  · isplitl [L0]; · iexact L0
    isplitl [L1] <;> iassumption
  icases Hl with ⟨%g, %hg, Hl⟩
  -- the merge
  iapply (wp_load 𝒱₀ (c : Thread nD τ) none Set.univ (m := cM) (Finset.subset_univ _)) $$ Hc; iintro Hc
  rw [load_cand]
  iapply (wp_load 𝒱₀ (c : Thread nD τ) none Set.univ (m := gM) (Finset.subset_univ _)) $$ Hl; iintro Hl
  iapply (wp_load 𝒱₀ (c : Thread nD τ) none Set.univ (m := gM) (Finset.subset_univ _)) $$ Hl; iintro Hl
  iapply (wp_load 𝒱₀ (c : Thread nD τ) none Set.univ (m := gM) (Finset.subset_univ _)) $$ Hl; iintro Hl
  iapply (wp_load 𝒱₀ (c : Thread nD τ) none Set.univ (m := oM) (Finset.subset_univ _)) $$ Hout; iintro Hout
  iapply (wp_store 𝒱₀ (c : Thread nD τ) none Set.univ (m := oM) (r := allRect) (Mk := Finset.univ) (Finset.subset_univ _)) $$ Hout; iintro Hout
  rw [store_out, merge_landed m ρ c g hg]
  -- the exit
  unfold exits
  iapply (step_leave m ρ K c 0 _ _) $$ [HO E0]
  · isplitr; · iexact HR
    isplitl [HO] <;> iassumption
  iintro HO
  iapply (step_leave m ρ K c 1 _ _) $$ [HO E1]
  · isplitr; · iexact HR
    isplitl [HO] <;> iassumption
  iintro HO
  iapply (step_leave m ρ K c 2 _ _) $$ [HO E2]
  · isplitr; · iexact HR
    isplitl [HO] <;> iassumption
  iintro HO
  iapply (step_wait m ρ K c 1 _ (wpE_semWait_eq 𝒱₀ (c : Thread nD τ) none Set.univ) (total_hand 1 (by decide)) [] (by intro p hp; cases hp) _) $$ [HO C1 A1]
  · isplitr; · iexact HR
    isplitr; · iexact Hlev
    isplitl [HO]; · iexact HO
    isplitl [C1] <;> iassumption
  iintro ⟨HO, A1, -⟩
  imod (close m ρ K c 0) $$ [A0] with Z0
  · isplitr; · iexact HR
    iexact A0
  imod (close m ρ K c 1) $$ [A1] with Z1
  · isplitr; · iexact HR
    iexact A1
  imod (close m ρ K c 2) $$ [A2] with Z2
  · isplitr; · iexact HR
    iexact A2
  imod (close m ρ K c 3) $$ [A3] with Z3
  · isplitr; · iexact HR
    iexact A3
  imod (close m ρ K c 4) $$ [A4] with Z4
  · isplitr; · iexact HR
    iexact A4
  imod (close m ρ K c 5) $$ [A5] with Z5
  · isplitr; · iexact HR
    iexact A5
  imod (close m ρ K c 6) $$ [A6] with Z6
  · isplitr; · iexact HR
    iexact A6
  imod (close m ρ K c 7) $$ [A7] with Z7
  · isplitr; · iexact HR
    iexact A7
  rw [wp_ret]; imodintro
  unfold bodyPost after
  rw [eight]
  isplitl [Hc Hl Z0 Z1 Z2 Z3 Z4 Z5 Z6 Z7]
  · isplitl [Hc]; · iexists _; iexact Hc
    isplitl [Hl]; · iexists _; iexact Hl
    isplitl [Z0]; · iexact Z0
    isplitl [Z1]; · iexact Z1
    isplitl [Z2]; · iexact Z2
    isplitl [Z3]; · iexact Z3
    isplitl [Z4]; · iexact Z4
    isplitl [Z5]; · iexact Z5
    isplitl [Z6] <;> iassumption
  isplitl [HO]
  · iapply (owes_done m ρ c _); iexact HO
  isplitl [Hx]
  · iexists _; isplitr; · (ipureintro; rfl)
    iexact Hx
  iexists _; isplitr; · (ipureintro; rfl)
  iexact Hout

set_option maxRecDepth 4000 in
/-- The launch's obligation on the body of device `c`. -/
theorem body_obligation (c : Dev nD) : BodyObligation (dats (F := F) m ρ 0 c) (defs₀ (F := F)) 𝒱₀ () Set.univ := fun t => by
  rw [fin_N0 t, show (∀ Φ : Fin cfg0.W → sProp 𝕄, bigSep Finset.univ Φ = iprop(Φ (0 : Fin 2) ∗ Φ (1 : Fin 2))) from bigSep_W0,
    show (∀ Φ : Fin cfg0.W → sProp 𝕄, bigSep Finset.univ Φ = iprop(Φ (0 : Fin 2) ∗ Φ (1 : Fin 2))) from bigSep_W0]
  simp only [owns_whole_eq]
  exact sound_body m ρ c

end Cert.TopK

end
-- ==== Proof.Launch.lean ====
/-
The launch: from a memory with every counter at zero, all devices run their bodies, and the run ends with each device's result computed.
-/
module

public import proofs.«01_k».proof.Proof.Sound
public import Idealize.ShloMosaic.Lib.Pipeline.CollectiveSegs

@[expose] public section

noncomputable section

namespace Cert.TopK

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Cells and tokens -/

/-- The semaphores the kernel allocates for itself: all but the entry's. -/
abbrev osem : Fin 7 → SemLoc sig := fun i => csem i.succ

theorem ownSemFacts : Pipeline.OwnSemFacts cfg0.spec osem := by decide

theorem share_eq (c : Dev nD) (w : Fin cfg0.W) : (dats m ρ 0 c).share w = fullShare := by unfold Dat.share; split <;> rfl

def allCells : Finset (GSem nD τ sig) := Finset.univ.map ⟨kcell, kcell_injective⟩

/-- Which duty of a device's own cells: on account of peer `j`, at the entry, at the exit, at a landing, at a departure. -/
def tokCell (j : Fin 3) (t : Fin 4) : Fin 8 := match t with | 0 => 0 | 1 => 1 | 2 => rK j | 3 => sK j
def tokDuty (j : Fin 3) (t : Fin 4) : Fin 3 := match t with | 0 => j | 1 => j | 2 => 0 | 3 => 0
def tokOf (x : Dev nD × Fin 3 × Fin 4) : GSem nD τ sig × ℕ × Fin 3 := (kcell (x.1, tokCell x.2.1 x.2.2), 0, tokDuty x.2.1 x.2.2)
theorem tok_injective : ∀ x y : Fin 3 × Fin 4, tokCell x.1 x.2 = tokCell y.1 y.2 → tokDuty x.1 x.2 = tokDuty y.1 y.2 → x = y := by decide
theorem tokOf_injective : Function.Injective tokOf := by
  rintro ⟨c, x⟩ ⟨c', y⟩ h
  have h1 := kcell_injective (congrArg Prod.fst h)
  have h2 : tokDuty x.1 x.2 = tokDuty y.1 y.2 := congrArg (fun z : GSem nD τ sig × ℕ × Fin 3 => z.2.2) h
  have hc : c = c' := congrArg Prod.fst h1
  have hk : tokCell x.1 x.2 = tokCell y.1 y.2 := congrArg Prod.snd h1
  rw [hc, tok_injective x y hk h2]
def allToks : Finset (GSem nD τ sig × ℕ × Fin 3) := Finset.univ.map ⟨tokOf, tokOf_injective⟩

def u₀ : UU := (initOf (Pipeline.cells cfgs cellOf_inj) (Pipeline.launchToks cfgs cellOf_inj), initOf allCells allToks)

/-- The tokens of device `c`'s own cells' duties, those on account of peer `j`. -/
def ownToks (j : Fin 3) (c : Dev nD) : sProp 𝕄 :=
  iprop(dutyTok EX (kcell (c, 0)) 0 j ∗ dutyTok EX (kcell (c, 1)) 0 j ∗ dutyTok EX (kcell (c, rK j)) 0 0 ∗ dutyTok EX (kcell (c, sK j)) 0 0)
def toks (c : Dev nD) : sProp 𝕄 := iprop(ownToks 0 c ∗ ownToks 1 c ∗ ownToks 2 c)

/-- What the launch deals device `c`. -/
def G (c : Dev nD) : sProp 𝕄 :=
  iprop((bigSep Finset.univ fun k : Fin 8 => roundState EX (rd m ρ) (kcell (c, k)) 0)
    ∗ (places c ∗ bigSep Finset.univ fun k : Fin 8 => reached EX (kcell (c, k)) 0) ∗ toks c)
/-- What it holds once the invariants are set up. -/
def G' (c : Dev nD) : sProp 𝕄 := iprop((∃ K, records m ρ K) ∗ places c ∗ (payToks 0 c ∗ payToks 1 c ∗ payToks 2 c))

theorem four (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem fund_cells : BI.own (EX (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : Fin 8 => Φ (kcell (c, k)) := by
    unfold allCells; rw [bigSep_map, bigSep_univ_prod]; rfl
  have hT : bigSep allToks (fun x => (dutyTok EX x.1 x.2.1 x.2.2 : sProp 𝕄)) = bigSep Finset.univ fun c : Dev nD => toks c := by
    unfold allToks; rw [bigSep_map, bigSep_univ_prod]
    refine bigSep_congr fun c _ => ?_
    rw [bigSep_univ_prod, slots_fin3, four, four, four]
    rfl
  iintro HX
  imod (Rounds.fund EX (rd m ρ) allCells allToks) $$ HX with ⟨Hst, Hr, Hat, Htok⟩
  imodintro
  ihave Hst' := (Entails.of_eq (hX fun g => roundState EX (rd m ρ) g 0)) $$ Hst
  ihave Hat' := (Entails.of_eq (hX fun g => atPos EX g 0 ∅ 0)) $$ Hat
  ihave Hr' := (Entails.of_eq (hX fun g => reached EX g 0)) $$ Hr
  ihave Htok' := (Entails.of_eq hT) $$ Htok
  unfold G places; simp only [bigSep_sep']
  isplitl [Hst']; · iexact Hst'
  isplitl [Hat' Hr']
  · isplitl [Hat'] <;> iassumption
  iexact Htok'

/-- A device's own seven counters and the entry's are its eight. -/
theorem sems_eq (c : Dev nD) :
    iprop(Pipeline.ownSems0 (Ix := Unit) (Name := ℕ) (U := UU) (Lvl := ℕ) (Val := Elt F) (τ := τ) osem c ∗ unscopedSems0 c)
      = (bigSep Finset.univ fun k : Fin 8 => semVal (kcell (c, k)) 0 : sProp 𝕄) := by
  have h1 : (Pipeline.ownSems0 (Ix := Unit) (Name := ℕ) (U := UU) (Lvl := ℕ) (Val := Elt F) (τ := τ) osem c : sProp 𝕄)
      = iprop(semVal (kcell (c, 1)) 0 ∗ semVal (kcell (c, 2)) 0 ∗ semVal (kcell (c, 3)) 0 ∗ semVal (kcell (c, 4)) 0 ∗ semVal (kcell (c, 5)) 0
        ∗ semVal (kcell (c, 6)) 0 ∗ semVal (kcell (c, 7)) 0) := by
    rw [Pipeline.ownSems0_eq_of_list c osem [0, 1, 2, 3, 4, 5, 6] (by decide) (by decide)]; rfl
  have h2 : (unscopedSems0 c : sProp 𝕄) = semVal (kcell (c, 0)) 0 := by
    unfold unscopedSems0; rw [bigSep_eq_bigSepL_of_eq [SemLoc.reg barS] (by decide) (by decide)]; rfl
  rw [h1, h2, eight]
  refine BI.Entails.antisymm ?_ ?_
  · change (_ : sProp 𝕄) ⊢ _
    iintro ⟨⟨H1, H2, H3, H4, H5, H6, H7⟩, H0⟩
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · change (_ : sProp 𝕄) ⊢ _
    iintro ⟨H0, H1, H2, H3, H4, H5, H6, H7⟩
    isplitr [H0]
    · isplitl [H1]; · iexact H1
      isplitl [H2]; · iexact H2
      isplitl [H3]; · iexact H3
      isplitl [H4]; · iexact H4
      isplitl [H5]; · iexact H5
      isplitl [H6]; · iexact H6
      iexact H7
    · iexact H0

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv EX (rd m ρ) κ (kcell (c, k))))
          ∗ (places c ∗ bigSep Finset.univ fun k : Fin 8 => reached EX (kcell (c, k)) 0) ∗ toks c) := by
  unfold G
  iintro ⟨Hos, Hus, Hst, Hat, Htok⟩
  ihave Hv := (Entails.of_eq (sems_eq (F := F) c)) $$ [Hos Hus]
  · isplitl [Hos] <;> iassumption
  imod (show iprop((bigSep Finset.univ fun k : Fin 8 => semVal (kcell (c, k)) 0) ∗ bigSep Finset.univ fun k : Fin 8 => roundState EX (rd m ρ) (kcell (c, k)) 0)
      ⊢ (|={Set.univ}=> bigSep Finset.univ fun k => iprop(∃ κ : ℕ, cellInv EX (rd m ρ) κ (kcell (c, k))) : sProp 𝕄) from by
        rw [← bigSep_sep']
        exact (bigSep_mono fun k _ => (Rounds.body_intro EX (rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def peerE (j : Fin 3) : Dev nD ≃ Dev nD := ⟨peer j, peer j, peer_peer j, peer_peer j⟩

/-- The tokens dealt out to the devices that pay the duties. -/
theorem toks_across (j : Fin 3) : (bigSep Finset.univ fun c : Dev nD => (ownToks j c : sProp 𝕄)) = bigSep Finset.univ fun c : Dev nD => payToks j c := by
  unfold ownToks payToks
  simp only [bigSep_sep']
  rw [bigSep_univ_equiv (peerE j) (fun c : Dev nD => (dutyTok EX (kcell (c, 0)) 0 j : sProp 𝕄)),
    bigSep_univ_equiv (peerE j) (fun c : Dev nD => (dutyTok EX (kcell (c, 1)) 0 j : sProp 𝕄)),
    bigSep_univ_equiv (peerE j) (fun c : Dev nD => (dutyTok EX (kcell (c, rK j)) 0 0 : sProp 𝕄))]
  rfl

theorem toks_dealt : (bigSep Finset.univ fun c : Dev nD => (toks c : sProp 𝕄)) = bigSep Finset.univ fun c : Dev nD => iprop(payToks 0 c ∗ payToks 1 c ∗ payToks 2 c) := by
  unfold toks
  simp only [bigSep_sep', toks_across]

/-- A persistent fact may be used at every member. -/
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv EX (rd m ρ) κ (kcell (c, k))))
          ∗ (places c ∗ bigSep Finset.univ fun k : Fin 8 => reached EX (kcell (c, k)) 0) ∗ toks c) : sProp 𝕄)
      ⊢ bigSep Finset.univ (G' m ρ) := by
  rw [bigSep_sep', bigSep_sep', bigSep_sep', toks_dealt, ← bigSep_univ_prod (fun ck : Dev nD × Fin 8 => iprop(∃ κ : ℕ, cellInv EX (rd m ρ) κ (kcell ck))),
    ← bigSep_univ_prod (fun ck : Dev nD × Fin 8 => (reached EX (kcell ck) 0 : sProp 𝕄))]
  iintro ⟨HI, ⟨Hat, #HR⟩, Htok⟩
  ihave HK := (BI.bigSep_exists_pi Finset.univ (fun (ck : Dev nD × Fin 8) (κ : ℕ) => (cellInv EX (rd m ρ) κ (kcell ck) : sProp 𝕄))) $$ HI
  icases HK with ⟨%K, #HI⟩
  iapply (with_persistent (R := records m ρ K) (Φ := fun c : Dev nD => iprop(places c ∗ (payToks 0 c ∗ payToks 1 c ∗ payToks 2 c))) fun c _ => by
    unfold G'
    iintro ⟨#H, Hat, Htok⟩
    isplitr; · iexists K; iexact H
    isplitl [Hat] <;> iassumption)
  isplitr
  · unfold records
    isplitl; · iexact HI
    iexact HR
  · iapply (Entails.of_eq (bigSep_sep' Finset.univ (fun c : Dev nD => (places c : sProp 𝕄)) (fun c => iprop(payToks 0 c ∗ payToks 1 c ∗ payToks 2 c))).symm)
    isplitl [Hat] <;> iassumption

/-- Every device's cells set up at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credit the debts make -/

/-- What a list of debts owes a cell. -/
theorem debt_at (ck : Dev nD × Fin 8) : ∀ l : List (Dev nD × Fin 8), debt l (kcell ck) () = (l.map fun p => if p = ck then amt ck.2 else 0).sum
  | [] => rfl
  | p :: l => by
    rw [debt_cons, Pi.add_apply, Finsupp.add_apply, debt_at ck l, List.map_cons, List.sum_cons, Nat.add_comm, tallyAt_apply]
    congr 1
    by_cases h : p = ck
    · subst h; rw [if_pos ⟨rfl, rfl⟩, if_pos rfl]
    · rw [if_neg h, if_neg fun h' => h (kcell_injective h'.1.symm)]

/-- What all devices owe on account of peer `j`, on their cells of one number, to one cell. -/
theorem owed_sum (j : Fin 3) (k' : Fin 8) (c : Dev nD) (k : Fin 8) : (∑ d : Dev nD, if (peer j d, k') = (c, k) then amt k else 0) = if k' = k then amt k else 0 := by
  by_cases hk : k' = k
  · rw [if_pos hk, Finset.sum_congr rfl (g := fun d => if d = peer j c then amt k else 0) fun d _ => by
      congr 1
      rw [eq_iff_iff]
      constructor
      · intro h; rw [show c = peer j d from (congrArg Prod.fst h).symm, peer_peer]
      · rintro rfl; rw [peer_peer, hk],
      Finset.sum_ite_eq' Finset.univ (peer j c) fun _ => amt k, if_pos (Finset.mem_univ _)]
  · rw [if_neg hk]
    exact Finset.sum_eq_zero fun d _ => if_neg fun h => hk (congrArg Prod.snd h)

theorem launch_cell (c : Dev nD) (k : Fin 8) (n : ℕ)
    (hn : (([0, 0, 0, rK 0, rK 1, rK 2, 1, 1, 1] : List (Fin 8)).map fun k' => if k' = k then amt k else 0).sum = n) :
    tallyOn (kcell (c, k)) (launchCredit (Pipeline.owing fun d => debt (owed d)) 0 (kcell (c, k))) = (tallyAt (kcell (c, k)) () n : CellTallies nD τ sig Unit) := by
  unfold tallyAt; refine congrArg _ (Finsupp.ext fun u => ?_); cases u
  rw [Pipeline.launchCredit_owing, Finsupp.single_eq_same, ← hn, Finset.sum_congr rfl fun d _ => debt_at (c, k) (owed d)]
  unfold owed copies exits
  simp only [List.map_cons, List.map_nil, List.sum_cons, List.sum_nil, Finset.sum_add_distrib, owed_sum, Finset.sum_const_zero]

theorem cred_cell (c : Dev nD) (k : Fin 8) (n : ℕ)
    (hn : (([0, 0, 0, rK 0, rK 1, rK 2, 1, 1, 1] : List (Fin 8)).map fun k' => if k' = k then amt k else 0).sum = n) :
    cred (tallyOn ((c : Thread nD τ), csem k) (launchCredit (Pipeline.owing fun d => debt (owed d)) 0 ((c : Thread nD τ), csem k))) ⊢ (cred (tallyAt (kcell (c, k)) () n) : sProp 𝕄) :=
  Entails.of_eq (congrArg _ (launch_cell c k n hn))

theorem creds (c : Dev nD) :
    (Pipeline.launchCred (fun d => debt (owed d)) c : sProp 𝕄)
      ⊢ iprop(cred (tallyAt (kcell (c, 0)) () 3) ∗ cred (tallyAt (kcell (c, 1)) () 3)
        ∗ cred (tallyAt (kcell (c, 5)) () N) ∗ cred (tallyAt (kcell (c, 6)) () N) ∗ cred (tallyAt (kcell (c, 7)) () N)) := by
  unfold Pipeline.launchCred
  refine (bigSep_subset (Finset.subset_univ (Finset.univ.map ⟨csem, csem_injective⟩))).trans ?_
  rw [bigSep_map, eight]
  change (_ : sProp 𝕄) ⊢ _
  iintro ⟨H0, H1, -, -, -, H5, H6, H7⟩
  isplitl [H0]; · iapply (cred_cell c 0 3 rfl); iexact H0
  isplitl [H1]; · iapply (cred_cell c 1 3 rfl); iexact H1
  isplitl [H5]; · iapply (cred_cell c 5 N rfl); iexact H5
  isplitl [H6]; · iapply (cred_cell c 6 N rfl); iexact H6
  iapply (cred_cell c 7 N rfl); iexact H7

/-! ## The region's entry and exit -/

theorem start_intro (c : Dev nD) :
    iprop(Pipeline.unscopedRestP Pipeline.Prefetch.none cfg0.spec c (fun b => m ((c : Thread nD τ).loc b)) ∗ levAts L lv
        ∗ Pipeline.launchCred (fun d => debt (owed d)) c ∗ prngReg c (ρ c) ∗ G' m ρ c)
      ⊢ |={Set.univ}=> iprop(start m ρ c ∗ emp) := by
  unfold G' start
  iintro ⟨-, Hlev, Hcr, -, HK, Hat, Htok⟩
  ihave Hc := (creds (F := F) c) $$ Hcr
  imodintro
  isplitl
  · isplitl [HK]; · iexact HK
    isplitl [Hat]; · iexact Hat
    isplitl [Htok]; · iexact Htok
    isplitl [Hc] <;> iassumption
  · iempintro

theorem enter (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = before m ρ c from rfl, scopedRest0_eq]
  unfold before
  iintro ⟨Hs, -, Hr⟩
  isplitl [Hs] <;> iassumption

theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = after c from rfl, scopedRest0_eq]
  unfold after
  rw [← sems_eq]
  iintro ⟨Hc, Hl, Ho, Hu⟩
  isplitl [Hu]; · iexact Hu
  isplitl [Ho]; · iexact Ho
  isplitl [Hc] <;> iassumption

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · refine mayWait c _ (owed c) fun p hp => ?_
      rw [show lv ((c : Thread nD τ), _) () = 0 from by fin_cases w <;> fin_cases s <;> rfl]
      unfold owed copies exits at hp
      fin_cases hp <;> exact Nat.succ_pos _
    · exact mayWait c _ [] fun p hp => by cases hp

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
theorem run_region : θ_run defs (onTc (τ := τ) (Cert.KernelIdeal.main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ Cert.KernelIdeal.main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun d => debt (owed d)) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem final_arg (c : Dev nD) : finalA m ρ c (0 : Fin 2) = (s₀ m ρ).mem (win0_0.arr.view.loc (c : Thread nD τ)) :=
  (dats (F := F) m ρ 0 c).arrAt_in (0 : Fin 2) rfl _

/-- A window's one block is its whole array. -/
theorem read_arg (f : (main_arg0 : Ref sig .tc).ty.Contents (Elt F)) : (win0_0.blk (0 : Fin 1)).view.read (Elt F) f = f :=
  Memref.read_access_unit_zero (Elt F) main_arg0 (off := fun a => (win0_0.index (0 : Fin 1)) a * main_arg0.ty.shape.size a)
    (funext fun a => by fin_cases a <;> decide) (fun a => by fin_cases a <;> decide) f
theorem read_res (f : (main_v1 : Ref sig .tc).ty.Contents (Elt F)) : (win0_1.blk (0 : Fin 1)).view.read (Elt F) f = f :=
  Memref.read_access_unit_zero (Elt F) main_v1 (off := fun a => (win0_1.index (0 : Fin 1)) a * main_v1.ty.shape.size a)
    (funext fun a => by fin_cases a <;> decide) (fun a => by fin_cases a <;> decide) f

theorem final_res (c : Dev nD) : finalA m ρ c (1 : Fin 2) = outAt m ρ c := by
  rw [← read_res (F := F) (finalA m ρ c (1 : Fin 2))]
  unfold finalA
  rw [show cfg0.N = ((0 : Fin 1) : Fin cfg0.N).val + 1 from rfl, (dats m ρ 0 c).arrAt_succ (1 : Fin 2) (0 : Fin 1)]
  rw [show (cfg0.win (1 : Fin 2)).flush (0 : Fin 1) = true from by decide, if_pos rfl]
  exact View.read_write_univ _ _

/-- From any memory with every counter at zero the program runs on every device; its argument ends unchanged, its result is
    `outAt`, and every counter is zero again. -/
theorem run_main : θ_run defs (onTc (τ := τ) (Cert.KernelIdeal.main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_v1) = outAt m ρ c) ∧ r.2.sem = fun _ => 0) :=
  (θ_run defs _ _).mono (fun _ h => ⟨fun c => ⟨(h.1 c (0 : Fin 2)).trans (final_arg m ρ c), (h.1 c (1 : Fin 2)).trans (final_res m ρ c)⟩, h.2⟩) (run_region m ρ)

end Cert.TopK

end
-- ==== Proof.Frames.lean ====
/-
The three frames: each program runs to its end, leaves its argument as it was, and returns every semaphore to zero.
-/
module

public import proofs.«01_k».proof.Defs
public import proofs.«01_k».proof.Proof.Launch
public import proofs.«01_k».proof.Proof.Gen.Kernel
public import proofs.«01_k».proof.Proof.Gen.ReferenceIdeal.Run
public import Idealize.ShloMosaic.Init

@[expose] public section

noncomputable section

namespace Cert.TopK

open Idealize.ShloMosaic Idealize.SL.Sem

/-- The frame over any floats. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD, r.2.mem ((c.tc : Thread Cert.KernelIdeal.nD Cert.KernelIdeal.τ).loc Cert.KernelIdeal.main_arg0)
        = m ((c.tc : Thread Cert.KernelIdeal.nD Cert.KernelIdeal.τ).loc Cert.KernelIdeal.main_arg0)) ∧ r.2.sem = fun _ => 0) :=
  (θ_run Cert.KernelIdeal.defs _ _).mono (fun _ h => ⟨fun c => (h.1 c).1, h.2⟩) (run_main m ρ)

/-- The kernel read over the extended reals runs, its argument ends unchanged, and every counter is zero again. -/
theorem frame_ideal : Cert.quiescent_KernelIdeal (hKernelIdeal := Cert.KernelIdeal.Gen.facts) := fun m ρ _ => frame_any (F := Ideal) m ρ

/-- The kernel's bodies are the same whichever of its two printings they are read from. -/
theorem bodies_eq {F : FTy → Type} [FloatOps F] :
    @Cert.Kernel.defs₀ F _ Cert.Kernel.Gen.facts = @Cert.KernelIdeal.defs₀ F _ Cert.KernelIdeal.Gen.facts := by
  unfold Cert.Kernel.defs₀ Cert.KernelIdeal.defs₀
  refine congrArg Defs.onTc ?_
  funext l a
  match l, a with
  | 0, (t, s) => rfl

/-- And so are the tables of everything the two programs call. -/
theorem tables_eq {F : FTy → Type} [FloatOps F] :
    @Cert.Kernel.defs F _ Cert.Kernel.Gen.facts = @Cert.KernelIdeal.defs F _ Cert.KernelIdeal.Gen.facts :=
  congrArg (Pipeline.defs (Cert.KernelIdeal.pcfgs (F := F))) bodies_eq

/-- The kernel as written runs, its argument ends unchanged, and every counter is zero again: its text is that of the program
    the run was proved of, over the machine's floats. -/
theorem frame_bits : Cert.quiescent_Kernel (hKernel := Cert.Kernel.Gen.facts) := fun m ρ _ => by
  rw [tables_eq]
  exact frame_any (F := Bits) m ρ

/-- The reference runs and its argument ends unchanged; it has no semaphore. -/
theorem frame_reference : Cert.quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

end Cert.TopK

end
-- ==== Proof.Order.lean ====
/-
The mathematics of the kernel's rounds, on finite families and finite sets of extended reals: what a round keeps, and when
keeping a few values of each part loses none of the greatest values of the whole.
-/
module

public import Mathlib.Data.EReal.Basic
public import Mathlib.Data.Finset.Lattice.Fold
public import Mathlib.Data.Finset.Max
public import Mathlib.Data.Fintype.Prod

@[expose] public section

noncomputable section

namespace Cert.TopK.Order

variable (lo : EReal)

/-- Round `k` over a family: the greatest entry, then in each later round the greatest once every entry not below the
    round before is replaced by the sentinel `lo`. -/
def top {ι : Type} [Fintype ι] (f : ι → EReal) : ℕ → EReal
  | 0 => Finset.univ.sup f
  | k + 1 => Finset.univ.sup fun i => if f i < top f k then f i else lo

/-- The `k`-th greatest of the different values of `S` above `lo`, or `lo` when there are not so many. -/
def nth (S : Finset EReal) : ℕ → EReal
  | 0 => max lo (S.sup id)
  | k + 1 => max lo ((S.filter (· < nth S k)).sup id)

/-- Above the sentinel, a round over a family gives the value of that rank among the family's values. -/
theorem max_top {ι : Type} [Fintype ι] (f : ι → EReal) (k : ℕ) :
    max lo (top lo f k) = nth lo (Finset.univ.image f) k := by
  induction k with
  | zero =>
    show max lo (Finset.univ.sup f) = max lo ((Finset.univ.image f).sup id)
    rw [Finset.sup_image]; rfl
  | succ k ih =>
    refine eq_of_forall_ge_iff fun c => ?_
    show max lo (Finset.univ.sup fun i => if f i < top lo f k then f i else lo) ≤ c
      ↔ max lo (((Finset.univ.image f).filter (· < nth lo (Finset.univ.image f) k)).sup id) ≤ c
    rw [← ih]
    simp only [max_le_iff, Finset.sup_le_iff, Finset.mem_univ, true_implies, Finset.mem_filter, Finset.mem_image, true_and, id]
    constructor
    · rintro ⟨h0, h⟩
      refine ⟨h0, ?_⟩
      rintro a ⟨⟨i, rfl⟩, hi⟩
      have := h i
      by_cases hlt : f i < top lo f k
      · rwa [if_pos hlt] at this
      · rcases lt_max_iff.mp hi with h1 | h1
        · exact h1.le.trans h0
        · exact absurd h1 hlt
    · rintro ⟨h0, h⟩
      refine ⟨h0, fun i => ?_⟩
      split
      · rename_i hlt
        exact h (f i) ⟨⟨i, rfl⟩, lt_max_of_lt_right hlt⟩
      · exact h0

/-- If some entry is not below the sentinel then no round falls below it. -/
theorem lo_le_top {ι : Type} [Fintype ι] (f : ι → EReal) (i : ι) (hi : lo ≤ f i) (k : ℕ) : lo ≤ top lo f k := by
  cases k with
  | zero => exact hi.trans (Finset.le_sup (f := f) (Finset.mem_univ i))
  | succ k =>
    refine le_trans ?_ (Finset.le_sup (f := fun i => if f i < top lo f k then f i else lo) (Finset.mem_univ i))
    show lo ≤ if f i < top lo f k then f i else lo
    split
    · exact hi
    · exact le_refl _

/-- The second round is never below the sentinel: the greatest entry is replaced by it. -/
theorem lo_le_top_one {ι : Type} [Fintype ι] [Nonempty ι] (f : ι → EReal) : lo ≤ top lo f 1 := by
  obtain ⟨i, _, hi⟩ := Finset.exists_mem_eq_sup Finset.univ Finset.univ_nonempty f
  refine le_trans ?_ (Finset.le_sup (f := fun i => if f i < top lo f 0 then f i else lo) (Finset.mem_univ i))
  show lo ≤ if f i < Finset.univ.sup f then f i else lo
  rw [hi, if_neg (lt_irrefl _)]

/-- A round does not depend on how the family is indexed. -/
theorem top_comp {ι κ : Type} [Fintype ι] [Fintype κ] (f : ι → EReal) (e : κ → ι) (he : Function.Surjective e) (k : ℕ) :
    top lo (fun a => f (e a)) k = top lo f k := by
  have hsup : ∀ g : ι → EReal, (Finset.univ.sup fun a => g (e a)) = Finset.univ.sup g := fun g => by
    refine le_antisymm (Finset.sup_le fun a _ => Finset.le_sup (f := g) (Finset.mem_univ _)) (Finset.sup_le fun i _ => ?_)
    obtain ⟨a, rfl⟩ := he i
    exact Finset.le_sup (f := fun a => g (e a)) (Finset.mem_univ a)
  induction k with
  | zero => exact hsup f
  | succ k ih =>
    show (Finset.univ.sup fun a => if f (e a) < top lo (fun a => f (e a)) k then f (e a) else lo) = _
    rw [ih]
    exact hsup fun i => if f i < top lo f k then f i else lo

variable {lo}

/-- A greatest value above `lo` is one of the set's. -/
theorem sup_mem {S : Finset EReal} (h : lo < max lo (S.sup id)) : max lo (S.sup id) ∈ S := by
  have h1 : lo < S.sup id := (lt_max_iff.mp h).resolve_left (lt_irrefl _)
  rw [max_eq_right h1.le]
  rcases S.eq_empty_or_nonempty with rfl | hne
  · exact absurd h1 (by simp)
  · obtain ⟨a, ha, e⟩ := Finset.exists_mem_eq_sup S hne id
    rw [e]; exact ha

/-- No rank's value is below the sentinel. -/
theorem lo_le_nth (S : Finset EReal) (k : ℕ) : lo ≤ nth lo S k := by
  cases k <;> exact le_max_left _ _

/-- A value of some rank, if above `lo`, is one of the set's. -/
theorem nth_mem {S : Finset EReal} {k : ℕ} (h : lo < nth lo S k) : nth lo S k ∈ S := by
  cases k with
  | zero => exact sup_mem h
  | succ k => exact Finset.mem_of_mem_filter _ (sup_mem h)

/-- The value of rank `k + 1`, if above `lo`, is below that of rank `k`. -/
theorem nth_succ_lt {S : Finset EReal} {k : ℕ} (h : lo < nth lo S (k + 1)) : nth lo S (k + 1) < nth lo S k :=
  (Finset.mem_filter.mp (sup_mem h)).2

/-- A value of rank `k` above `lo` has `k` greater ones. -/
theorem le_card_of_lt_nth {S : Finset EReal} : ∀ {k : ℕ}, lo < nth lo S k → k ≤ (S.filter (nth lo S k < ·)).card
  | 0, _ => Nat.zero_le _
  | k + 1, h => by
    have hlt := nth_succ_lt h
    have hk : lo < nth lo S k := h.trans hlt
    have hsub : insert (nth lo S k) (S.filter (nth lo S k < ·)) ⊆ S.filter (nth lo S (k + 1) < ·) := by
      intro a ha
      rcases Finset.mem_insert.mp ha with rfl | ha
      · exact Finset.mem_filter.mpr ⟨nth_mem hk, hlt⟩
      · have := Finset.mem_filter.mp ha
        exact Finset.mem_filter.mpr ⟨this.1, hlt.trans this.2⟩
    have hc := Finset.card_le_card hsub
    rw [Finset.card_insert_of_notMem (by simp)] at hc
    have := le_card_of_lt_nth hk
    omega

/-- With at most `k` values above `lo` the rank `k` is empty. -/
theorem nth_eq_lo {S : Finset EReal} {k : ℕ} (h : (S.filter (lo < ·)).card ≤ k) : nth lo S k = lo := by
  by_contra hne
  have hk : lo < nth lo S k := lt_of_le_of_ne (lo_le_nth S k) (Ne.symm hne)
  have hsub : insert (nth lo S k) (S.filter (nth lo S k < ·)) ⊆ S.filter (lo < ·) := by
    intro a ha
    rcases Finset.mem_insert.mp ha with rfl | ha
    · exact Finset.mem_filter.mpr ⟨nth_mem hk, hk⟩
    · have := Finset.mem_filter.mp ha
      exact Finset.mem_filter.mpr ⟨this.1, hk.trans this.2⟩
  have hc := Finset.card_le_card hsub
  rw [Finset.card_insert_of_notMem (by simp)] at hc
  have := le_card_of_lt_nth hk
  omega

/-- A value above `lo` has the rank that counts the greater ones. -/
theorem nth_rank {S : Finset EReal} : ∀ {k : ℕ} {v : EReal}, v ∈ S → lo < v → (S.filter (v < ·)).card = k → nth lo S k = v
  | 0, v, hv, hlo, hc => by
    have he : S.filter (v < ·) = ∅ := Finset.card_eq_zero.mp hc
    have hsup : S.sup id = v := le_antisymm
      (Finset.sup_le fun a ha => not_lt.mp fun hlt => by
        have : a ∈ S.filter (v < ·) := Finset.mem_filter.mpr ⟨ha, hlt⟩
        rw [he] at this; exact absurd this (Finset.notMem_empty _))
      (Finset.le_sup (f := id) hv)
    show max lo (S.sup id) = v
    rw [hsup, max_eq_right hlo.le]
  | k + 1, v, hv, hlo, hc => by
    have hne : (S.filter (v < ·)).Nonempty := Finset.card_pos.mp (by omega)
    obtain ⟨w, hw, hmin⟩ := (S.filter (v < ·)).exists_min_image id hne
    have hw' := Finset.mem_filter.mp hw
    have hins : S.filter (v < ·) = insert w (S.filter (w < ·)) := by
      ext a
      simp only [Finset.mem_filter, Finset.mem_insert]
      constructor
      · rintro ⟨ha, hva⟩
        rcases eq_or_lt_of_le (hmin a (Finset.mem_filter.mpr ⟨ha, hva⟩)) with h | h
        · exact Or.inl h.symm
        · exact Or.inr ⟨ha, h⟩
      · rintro (rfl | ⟨ha, h⟩)
        · exact hw'
        · exact ⟨ha, hw'.2.trans h⟩
    have hcw : (S.filter (w < ·)).card = k := by
      rw [hins, Finset.card_insert_of_notMem (by simp)] at hc; omega
    have ih : nth lo S k = w := nth_rank hw'.1 (hlo.trans hw'.2) hcw
    show max lo ((S.filter (· < nth lo S k)).sup id) = v
    rw [ih]
    have hsup : (S.filter (· < w)).sup id = v := le_antisymm
      (Finset.sup_le fun a ha => not_lt.mp fun hlt => by
        have ha' := Finset.mem_filter.mp ha
        exact absurd ha'.2 (not_lt.mpr (hmin a (Finset.mem_filter.mpr ⟨ha'.1, hlt⟩))))
      (Finset.le_sup (f := id) (Finset.mem_filter.mpr ⟨hv, hw'.2⟩))
    rw [hsup, max_eq_right hlo.le]

/-- A value above `lo` with fewer than `n` greater ones is among the first `n` ranks. -/
theorem exists_nth {S : Finset EReal} {n : ℕ} {v : EReal} (hv : v ∈ S) (hlo : lo < v) (hc : (S.filter (v < ·)).card < n) :
    ∃ j < n, nth lo S j = v := ⟨_, hc, nth_rank hv hlo rfl⟩

/-- Of two sets, if the first holds all that the second holds above `v`, it has as many values above `v`, or more. -/
theorem card_filter_le {S T : Finset EReal} {v : EReal} (h : ∀ a, v < a → a ∈ S → a ∈ T) :
    (S.filter (v < ·)).card ≤ (T.filter (v < ·)).card :=
  Finset.card_le_card fun a ha =>
    Finset.mem_filter.mpr ⟨h a (Finset.mem_filter.mp ha).2 (Finset.mem_filter.mp ha).1, (Finset.mem_filter.mp ha).2⟩

/-- A greater value has fewer values above it. -/
theorem card_filter_lt {S : Finset EReal} {v a : EReal} (ha : a ∈ S) (h : v < a) :
    (S.filter (a < ·)).card < (S.filter (v < ·)).card := by
  have hsub : insert a (S.filter (a < ·)) ⊆ S.filter (v < ·) := by
    intro b hb
    rcases Finset.mem_insert.mp hb with rfl | hb
    · exact Finset.mem_filter.mpr ⟨ha, h⟩
    · exact Finset.mem_filter.mpr ⟨(Finset.mem_filter.mp hb).1, h.trans (Finset.mem_filter.mp hb).2⟩
  have hc := Finset.card_le_card hsub
  rw [Finset.card_insert_of_notMem (by simp)] at hc
  omega

/-- The kernel's three stages over sets. `A d l` are the values of lane `l` of device `d`, `W` those of all the lanes. Above
    the sentinel, `B d` holds the first `n` ranks of each lane of device `d`, `C d` the first `N` ranks of `B d`, and `M` all
    that the `C d` hold. -/
structure Stages (lo : EReal) (n N : ℕ) {δ l : Type} (A : δ → l → Finset EReal) (B C : δ → Finset EReal) (M W : Finset EReal) :
    Prop where
  lanes : ∀ d a, lo < a → (a ∈ B d ↔ ∃ i, ∃ j < n, nth lo (A d i) j = a)
  device : ∀ d a, lo < a → (a ∈ C d ↔ ∃ j < N, nth lo (B d) j = a)
  merged : ∀ a, lo < a → (a ∈ M ↔ ∃ d, a ∈ C d)
  whole : ∀ a, a ∈ W ↔ ∃ d i, a ∈ A d i

namespace Stages

variable {n N : ℕ} {δ l : Type} {A : δ → l → Finset EReal} {B C : δ → Finset EReal} {M W : Finset EReal}

/-- What the lanes of a device keep above the sentinel is of the row. -/
theorem mem_of_lanes (h : Stages lo n N A B C M W) {d : δ} {a : EReal} (hlo : lo < a) (ha : a ∈ B d) : a ∈ W := by
  obtain ⟨i, j, _, e⟩ := (h.lanes d a hlo).mp ha
  exact (h.whole a).mpr ⟨d, i, e ▸ nth_mem (e.symm ▸ hlo)⟩

/-- What a device keeps above the sentinel is of the row. -/
theorem mem_of_device (h : Stages lo n N A B C M W) {d : δ} {a : EReal} (hlo : lo < a) (ha : a ∈ C d) : a ∈ W := by
  obtain ⟨j, _, e⟩ := (h.device d a hlo).mp ha
  exact h.mem_of_lanes hlo (d := d) (e ▸ nth_mem (e.symm ▸ hlo))

/-- What is merged is of the row. -/
theorem mem_of_merged (h : Stages lo n N A B C M W) {a : EReal} (hlo : lo < a) (ha : a ∈ M) : a ∈ W := by
  obtain ⟨d, hd⟩ := (h.merged a hlo).mp ha
  exact h.mem_of_device hlo hd

/-- A value with fewer than `n` greater ones in its lane and fewer than `N` in the row is merged. -/
theorem mem_merged (h : Stages lo n N A B C M W) {d : δ} {i : l} {a : EReal} (hlo : lo < a) (ha : a ∈ A d i)
    (hn : ((A d i).filter (a < ·)).card < n) (hN : (W.filter (a < ·)).card < N) : a ∈ M := by
  have hB : a ∈ B d := (h.lanes d a hlo).mpr ⟨i, exists_nth ha hlo hn⟩
  have hC : a ∈ C d := (h.device d a hlo).mpr
    (exists_nth hB hlo (lt_of_le_of_lt (card_filter_le fun b hb hm => h.mem_of_lanes (hlo.trans hb) hm) hN))
  exact (h.merged a hlo).mpr ⟨d, hC⟩

/-- A value `v` of the row, above the sentinel, with `k < N` greater ones: if no lane has more than `n` values above `v`, and
    a lane that holds `v` has fewer than `n`, then round `k` over what is merged gives `v`. -/
theorem nth_merged (h : Stages lo n N A B C M W) {k : ℕ} {v : EReal} (hlo : lo < v) (hk : (W.filter (v < ·)).card = k) (hkN : k < N)
    (hkept : ∀ d i, ((A d i).filter (v < ·)).card ≤ n) (hfound : ∃ d i, v ∈ A d i ∧ ((A d i).filter (v < ·)).card < n) :
    nth lo M k = v := by
  obtain ⟨d, i, hv, hn⟩ := hfound
  have hM : v ∈ M := h.mem_merged hlo hv hn (by omega)
  refine nth_rank hM hlo (le_antisymm ?_ ?_)
  · rw [← hk]; exact card_filter_le fun a ha hm => h.mem_of_merged (hlo.trans ha) hm
  · rw [← hk]
    refine card_filter_le fun a ha hm => ?_
    obtain ⟨d', i', hA⟩ := (h.whole a).mp hm
    exact h.mem_merged (hlo.trans ha) hA (lt_of_lt_of_le (card_filter_lt hA ha) (hkept d' i'))
      (lt_of_lt_of_le (card_filter_lt hm ha) (by omega))

/-- If the row has at most `k` values above the sentinel, round `k` over what is merged gives the sentinel. -/
theorem nth_merged_lo (h : Stages lo n N A B C M W) {k : ℕ} (hk : (W.filter (lo < ·)).card ≤ k) : nth lo M k = lo :=
  nth_eq_lo ((card_filter_le fun _ ha hm => h.mem_of_merged ha hm).trans hk)

end Stages

end Cert.TopK.Order

end
-- ==== Proof.Rounds.lean ====
/-
What the kernel's vectors hold over the extended reals, entry by entry: a round over lanes or over a row is a round over the
family of that lane's or that row's entries.
-/
module

public import proofs.«01_k».proof.Proof.Body
public import proofs.«01_k».proof.Proof.Order
public import Idealize.ShloMosaic.Lib.Pipeline.Value
public import Idealize.ShloMosaic.Lib.ValueIdx
public import Idealize.ShloMosaic.PureOps.Ideal.Laws

@[expose] public section

noncomputable section

namespace Cert.TopK

open Cert.KernelIdeal Cert.KernelIdeal.Gen
open Idealize.ShloMosaic Idealize.ShloMosaic.ValueIdx

/-- The sentinel as an extended real. -/
def low : EReal := Ideal.ofBits .f32 0xFF7FFFFF#32

/-- The accumulator of the kernel's maxima is the least extended real. -/
theorem acc_eq : (FloatOps.ofBits .f32 0xFF800000#32 : Ideal .f32) = (⊥ : EReal) := by
  show Ideal.ofBits .f32 0xFF800000#32 = ⊥
  simp [Ideal.ofBits, Ideal.ieee]

/-- One entry of `below`. -/
theorem below_apply {s : Shape} (prev v : FVec Ideal s .f32) (i : s.Idx) :
    below prev v i = if (v i : EReal) < prev i then v i else low := by
  show Scalar.select (Ideal.cmp .olt (v i) (prev i)) (v i) low = _
  unfold Ideal.cmp
  by_cases h : (v i : EReal) < prev i
  · simp [h, Scalar.select]
  · simp [h, Scalar.select]

/-! ## Rounds over the slices -/

/-- One entry of a maximum of several vectors, by its upper bounds. -/
theorem foldl_le_iff (l : List (FVec Ideal S512x128 .f32)) (v : FVec Ideal S512x128 .f32) (i : S512x128.Idx) (b : EReal) :
    (l.foldl maximumf v i : EReal) ≤ b ↔ (v i : EReal) ≤ b ∧ ∀ w ∈ l, (w i : EReal) ≤ b := by
  induction l generalizing v with
  | nil => simp
  | cons w l ih =>
    rw [List.foldl_cons, ih]
    show max (v i : EReal) (w i) ≤ b ∧ _ ↔ _
    rw [max_le_iff]
    simp only [List.mem_cons, forall_eq_or_imp, and_assoc]

/-- One entry of the maximum of `n + 1` vectors. -/
theorem maxOf_apply {n : Nat} (f : Fin (n + 1) → FVec Ideal S512x128 .f32) (i : S512x128.Idx) :
    (maxOf (List.ofFn f) i : EReal) = Finset.univ.sup fun j => (f j i : EReal) := by
  refine eq_of_forall_ge_iff fun b => ?_
  rw [List.ofFn_succ]
  refine (foldl_le_iff _ _ i b).trans ?_
  rw [Finset.sup_le_iff]
  simp only [List.mem_ofFn, Finset.mem_univ, true_implies]
  constructor
  · rintro ⟨h0, h⟩ j
    refine Fin.cases h0 (fun j => h _ ⟨j, rfl⟩) j
  · intro h
    exact ⟨h 0, by rintro w ⟨j, rfl⟩; exact h _⟩

/-- One entry of a lane round. -/
theorem laneTop_apply {n : Nat} (f : Fin (n + 1) → FVec Ideal S512x128 .f32) (k : Nat) (i : S512x128.Idx) :
    (laneTop (List.ofFn f) k i : EReal) = Order.top low (fun j => (f j i : EReal)) k := by
  induction k with
  | zero => exact maxOf_apply f i
  | succ k ih =>
    show (maxOf ((List.ofFn f).map (below (laneTop (List.ofFn f) k))) i : EReal) = _
    rw [List.map_ofFn]
    refine (maxOf_apply _ i).trans ?_
    refine Finset.sup_congr rfl fun j _ => ?_
    refine (below_apply _ _ i).trans ?_
    rw [ih]

/-! ## Rounds over a row -/

variable {w : Nat} (h : (⟨2, ![512, w]⟩ : Shape).Reduces [1] S512) (hb : S512x1.Broadcasts ⟨2, ![512, w]⟩)

/-- A row's greatest entry. -/
theorem rowMax_apply (v : FVec Ideal ⟨2, ![512, w]⟩ .f32) (r : Fin 512) :
    (rowMax h v (ix2 r (0 : Fin 1)) : EReal) = Finset.univ.sup fun q : Fin w => (v (ix2 r q) : EReal) := by
  unfold rowMax
  rw [shapeCast_apply _ _ (ix2 r (0 : Fin 1)) (ix1 r) (by
    rw [Shape.rowMajor_val_one, Shape.rowMajor_val_two]
    show r.val = r.val * 1 + 0
    omega)]
  refine (Ideal.multiReduction_maximumf_single (a := (1 : Fin 2)) v 0xFF800000#32 h (.inl rfl) rfl (ix1 r)).trans ?_
  rw [acc_eq]
  show Finset.univ.sup (v ∘ h.lift (ix1 r)) = _
  refine Finset.sup_congr rfl fun q _ => ?_
  show v (h.lift (ix1 r) q) = v (ix2 r q)
  congr 1
  funext a
  match a with
  | ⟨0, _⟩ => rfl
  | ⟨1, _⟩ => rfl

/-- A column repeated along the rows. -/
theorem column_apply (v : FVec Ideal S512x1 .f32) (r : Fin 512) (q : Fin w) :
    broadcastTo ⟨2, ![512, w]⟩ v hb (ix2 r q) = v (ix2 r (0 : Fin 1)) :=
  broadcastTo_apply v hb (ix2 r q) (ix2 r (0 : Fin 1)) fun a => by
    match a with
    | ⟨0, _⟩ => rfl
    | ⟨1, _⟩ => rfl

/-- A round over a row. -/
theorem rowTop_apply (v : FVec Ideal ⟨2, ![512, w]⟩ .f32) (k : Nat) (r : Fin 512) :
    (rowTop h hb v k (ix2 r (0 : Fin 1)) : EReal) = Order.top low (fun q : Fin w => (v (ix2 r q) : EReal)) k := by
  induction k with
  | zero => exact rowMax_apply h v r
  | succ k ih =>
    refine (rowMax_apply h _ r).trans ?_
    refine Finset.sup_congr rfl fun q _ => ?_
    refine (below_apply _ _ _).trans ?_
    rw [column_apply hb _ r q, ih]

/-- Entry `(r, k)` of the sixteen rounds is round `k` over row `r`. -/
theorem rowTops_apply (v : FVec Ideal ⟨2, ![512, w]⟩ .f32) (r : Fin 512) (k : Fin 16) :
    (rowTops h hb v (ix2 r k) : EReal) = Order.top low (fun q : Fin w => (v (ix2 r q) : EReal)) k.val := by
  refine Eq.trans ?_ (rowTop_apply h hb v k.val r)
  exact concatenate_ofFn_unit_apply (t := S512x16) (s₁ := S512x1) 1 (fun n : Fin 16 => rowTop h hb v n.val)
    concatenates_S512x1_S512x1_S512x1_S512x1_S512x1_S512x1_S512x1_S512x1_S512x1_S512x1_S512x1_S512x1_S512x1_S512x1_S512x1_S512x1_S512x16_d1
    rfl rfl (ix2 r k) k rfl (ix2 r (0 : Fin 1)) (fun b hb => by
      match b with
      | ⟨0, _⟩ => rfl
      | ⟨1, _⟩ => exact absurd rfl hb)

/-- Entry `(r, q)` of the four lane rounds is round `q / 128` at lane `q % 128`. -/
theorem laneTops_apply (sl : List (FVec Ideal S512x128 .f32)) (r : Fin 512) (q : Fin 512) :
    laneTops sl (ix2 r q) = laneTop sl (q.val / 128) (ix2 r ⟨q.val % 128, Nat.mod_lt _ (by omega)⟩) :=
  concatenate_ofFn_apply (t := S512x512) (s₁ := S512x128) 1 (fun n : Fin 4 => laneTop sl n.val)
    concatenates_S512x128_S512x128_S512x128_S512x128_S512x512_d1 rfl 128 rfl (ix2 r q) ⟨q.val / 128, by omega⟩ rfl
    (ix2 r ⟨q.val % 128, Nat.mod_lt _ (by omega)⟩) rfl (fun b hb => by
      match b with
      | ⟨0, _⟩ => rfl
      | ⟨1, _⟩ => exact absurd rfl hb)

/-- Entry `(r, q)` of four blocks of candidates side by side is entry `(r, q % 16)` of block `q / 16`. -/
theorem four_apply (c : Fin 4 → FVec Ideal S512x16 .f32) (r : Fin 512) (q : Fin 64) :
    concatenate S512x64 1 [⟨S512x16, c 0⟩, ⟨S512x16, c 1⟩, ⟨S512x16, c 2⟩, ⟨S512x16, c 3⟩]
      concatenates_S512x16_S512x16_S512x16_S512x16_S512x64_d1 (ix2 r q)
      = c ⟨q.val / 16, by omega⟩ (ix2 r ⟨q.val % 16, Nat.mod_lt _ (by omega)⟩) :=
  concatenate_ofFn_apply (t := S512x64) (s₁ := S512x16) 1 c
    concatenates_S512x16_S512x16_S512x16_S512x16_S512x64_d1 rfl 16 rfl (ix2 r q) ⟨q.val / 16, by omega⟩ rfl
    (ix2 r ⟨q.val % 16, Nat.mod_lt _ (by omega)⟩) rfl (fun b hb => by
      match b with
      | ⟨0, _⟩ => rfl
      | ⟨1, _⟩ => exact absurd rfl hb)

end Cert.TopK

end
-- ==== Proof.Result.lean ====
/-
The kernel's result entry by entry: rounds over the four devices' candidates, which are rounds over lanes' rounds; and what they
give of a row of the whole array.
-/
module

public import proofs.«01_k».proof.Proof.Launch
public import proofs.«01_k».proof.Proof.Rounds
public import Idealize.ShloMosaic.Lib.Layout

@[expose] public section

noncomputable section

namespace Cert.TopK

open Cert.KernelIdeal Cert.KernelIdeal.Gen
open Idealize.ShloMosaic Idealize.ShloMosaic.TcCoe Idealize.ShloMosaic.ValueIdx

/-! ## A device's block -/

/-- A slice depends on its number alone. -/
theorem slice_at {F : FTy → Type} [FloatOps F] (x : (cc0_stg0_0 : Ref sig .tc).ty.Contents (Elt F)) {a b : Nat} (e : a = b) (ha hb) :
    xM.view.readAt (Elt F) (sliceRect a ha).toLoadRect x = xM.view.readAt (Elt F) (sliceRect b hb).toLoadRect x := by
  subst e; rfl

/-- The slices, listed. -/
theorem slices_eq {F : FTy → Type} [FloatOps F] (x : (cc0_stg0_0 : Ref sig .tc).ty.Contents (Elt F)) : ∀ (n j : Nat) (h : j + n ≤ 32),
    slices x j n h = List.ofFn fun i : Fin n => xM.view.readAt (Elt F) (sliceRect (j + i.val) (by omega)).toLoadRect x
  | 0, _, _ => rfl
  | n + 1, j, h => by
    rw [List.ofFn_succ]
    show _ :: slices x (j + 1) n _ = _
    rw [slices_eq x n (j + 1)]
    congr 1
    refine congrArg List.ofFn (funext fun i => ?_)
    exact slice_at x (by rw [Fin.val_succ]; omega) _ _

/-- Entry `(r, l)` of slice `j` is entry `(r, 128 j + l)` of the block. -/
theorem slice_apply {F : FTy → Type} [FloatOps F] (x : (cc0_stg0_0 : Ref sig .tc).ty.Contents (Elt F)) (j : Fin 32) (r : Fin 512) (l : Fin 128) :
    (xM.view.readAt (Elt F) (sliceRect (0 + j.val) (by omega)).toLoadRect x : FVec F S512x128 .f32) (ix2 r l)
      = (x : FVec F S512x4096 .f32) (ix2 r ⟨128 * j.val + l.val, by omega⟩) := by
  refine congrArg (x : FVec F S512x4096 .f32) (funext fun a => Fin.ext ?_)
  match a with
  | ⟨0, _⟩ => show 0 + 1 * r.val = r.val; omega
  | ⟨1, _⟩ => show 128 * (0 + j.val) + 1 * l.val = 128 * j.val + l.val; omega

/-- The entries of lane `l` of row `r` of a block. -/
def laneOf (x : FVec Ideal S512x4096 .f32) (r : Fin 512) (l : Fin 128) (j : Fin 32) : EReal := x (ix2 r ⟨128 * j.val + l.val, by omega⟩)

/-- The four lane rounds of row `r` of a block, at column `q`: round `q / 128` over lane `q % 128`. -/
def lanesOf (x : FVec Ideal S512x4096 .f32) (r : Fin 512) (q : Fin 512) : EReal :=
  Order.top low (laneOf x r ⟨q.val % 128, Nat.mod_lt _ (by omega)⟩) (q.val / 128)

/-- Entry `(r, k)` of a device's candidates. -/
theorem localTop_apply (x : FVec Ideal S512x4096 .f32) (r : Fin 512) (k : Fin 16) :
    (localTop (slices (F := Ideal) x 0 32 (Nat.le_refl _)) (ix2 r k) : EReal) = Order.top low (lanesOf x r) k.val := by
  unfold localTop
  rw [shapeCast_self]
  refine (rowTops_apply _ _ _ r k).trans ?_
  congr 1
  funext q
  rw [laneTops_apply]
  rw [show ((slices (F := Ideal) x 0 32 (Nat.le_refl _)).map fun v => shapeCast S512x128 v shapeCasts_S512x128_S512x128)
      = slices (F := Ideal) x 0 32 (Nat.le_refl _) from
    (List.map_congr_left fun v _ => shapeCast_self v _).trans (List.map_id _)]
  rw [slices_eq]
  refine (laneTop_apply (n := 31) _ _ _).trans ?_
  unfold lanesOf
  congr 1
  funext j
  exact slice_apply (F := Ideal) x j r _

/-! ## The result -/

variable (m : (ℓ : Loc nD τ sig) → Buf (Elt Ideal) ℓ) (ρ : Dev nD → PrngReg)

/-- The four devices that hold a row between them, from device `c`'s side: itself and its peers. -/
def crew (c : Dev nD) (i : Fin 4) : Dev nD := match i with
  | 0 => c
  | 1 => peer 0 c
  | 2 => peer 1 c
  | 3 => peer 2 c

/-- Device `c`'s block of the argument. -/
def argOf (c : Dev nD) : FVec Ideal S512x4096 .f32 := m ((c : Thread nD τ).loc main_arg0)

/-- Entry `(r, q)` of the four devices' candidates side by side. -/
def candsOf (c : Dev nD) (r : Fin 512) (q : Fin 64) : EReal :=
  Order.top low (lanesOf (argOf m (crew c ⟨q.val / 16, by omega⟩)) r) (q.val % 16)

/-- Entry `(r, k)` of a device's candidates, from the argument. -/
theorem candAt_apply (c : Dev nD) (r : Fin 512) (k : Fin 16) :
    ((candAt m ρ c : FVec Ideal S512x16 .f32) (ix2 r k) : EReal) = Order.top low (lanesOf (argOf m c) r) k.val := by
  refine Eq.trans ?_ (localTop_apply (argOf m c) r k)
  show (localTop (slices (xAt m ρ c) 0 32 (Nat.le_refl _)) : FVec Ideal S512x16 .f32) (ix2 r k) = _
  rw [show xAt m ρ c = argOf m c from read_arg _]

/-- Entry `(r, k)` of the result. -/
theorem outAt_apply (c : Dev nD) (r : Fin 512) (k : Fin 16) :
    ((outAt m ρ c : FVec Ideal S512x16 .f32) (ix2 r k) : EReal) = Order.top low (candsOf m c r) k.val := by
  refine (rowTops_apply _ _ _ r k).trans ?_
  congr 1
  funext q
  refine (four_apply (fun i => candAt m ρ (crew c i)) r q).trans ?_
  exact candAt_apply m ρ _ r _

/-! ## A row of the whole array -/

/-- The whole array's shape. -/
abbrev Whole : Shape := ⟨2, ![512, 16384]⟩

/-- Row `r` of the whole array. -/
def rowSet (X : FVec Ideal Whole .f32) (r : Fin 512) : Finset EReal := Finset.univ.image fun q : Fin 16384 => (X (ix2 r q) : EReal)

/-- The values of lane `l` of block `z` of row `r` of the whole array. -/
def laneSet (X : FVec Ideal Whole .f32) (r : Fin 512) (z : Fin 4) (l : Fin 128) : Finset EReal :=
  Finset.univ.image fun j : Fin 32 => (X (ix2 r ⟨4096 * z.val + 128 * j.val + l.val, by omega⟩) : EReal)

/-- The block the `i`-th device of a crew holds. -/
def zOf (c : Dev nD) (i : Fin 4) : Fin 4 := ⟨(crew c i).val % 4, Nat.mod_lt _ (by omega)⟩

/-- A crew holds every block. -/
theorem zOf_surjective (c : Dev nD) : Function.Surjective (zOf c) := by
  intro z
  revert c z
  decide

/-- A value above the sentinel is the greater of the sentinel and a value exactly if it is the value. -/
theorem max_low_eq {a x : EReal} (h : low < a) : max low x = a ↔ x = a := by
  constructor
  · intro e
    rcases max_choice low x with hm | hm
    · exact absurd (hm.symm.trans e) h.ne
    · exact hm.symm.trans e
  · rintro rfl
    exact max_eq_right h.le

/-- Above the sentinel, a round's value is a rank's. -/
theorem top_eq_iff {ι : Type} [Fintype ι] {f : ι → EReal} {k : ℕ} {a : EReal} (h : low < a) :
    Order.top low f k = a ↔ Order.nth low (Finset.univ.image f) k = a := by
  rw [← Order.max_top, max_low_eq h]

/-- Every device's argument is its block of `X`. -/
def Blocks (X : FVec Ideal Whole .f32) : Prop :=
  ∀ (c : Dev nD) (r : Fin 512) (q : Fin 4096), (argOf m c (ix2 r q) : EReal) = X (ix2 r ⟨4096 * (c.val % 4) + q.val, by omega⟩)

variable {m}

/-- A lane of a device's block is a lane of the whole array. -/
theorem lane_image {X : FVec Ideal Whole .f32} (hX : Blocks m X) (c : Dev nD) (i : Fin 4) (r : Fin 512) (l : Fin 128) :
    Finset.univ.image (laneOf (argOf m (crew c i)) r l) = laneSet X r (zOf c i) l := by
  unfold laneSet
  congr 1
  funext j
  refine (hX (crew c i) r _).trans ?_
  refine congrArg (fun q => (X (ix2 r q) : EReal)) (Fin.ext ?_)
  show 4096 * ((crew c i).val % 4) + (128 * j.val + l.val) = 4096 * ((crew c i).val % 4) + 128 * j.val + l.val
  omega

/-- The stages of the selection of a row, from device `c`'s side. -/
theorem stages {X : FVec Ideal Whole .f32} (hX : Blocks m X) (c : Dev nD) (r : Fin 512) :
    Order.Stages low 4 16 (fun i l => laneSet X r (zOf c i) l) (fun i => Finset.univ.image (lanesOf (argOf m (crew c i)) r))
      (fun i => Finset.univ.image fun k : Fin 16 => Order.top low (lanesOf (argOf m (crew c i)) r) k.val)
      (Finset.univ.image (candsOf m c r)) (rowSet X r) where
  lanes i a ha := by
    simp only [Finset.mem_image, Finset.mem_univ, true_and, ← lane_image hX]
    constructor
    · rintro ⟨q, e⟩
      exact ⟨_, q.val / 128, by omega, (top_eq_iff ha).mp e⟩
    · rintro ⟨l, j, hj, e⟩
      refine ⟨⟨128 * j + l.val, by omega⟩, ?_⟩
      have e1 : (128 * j + l.val) / 128 = j := by omega
      have e2 : (⟨(128 * j + l.val) % 128, Nat.mod_lt _ (by omega)⟩ : Fin 128) = l := Fin.ext (by show (128 * j + l.val) % 128 = l.val; omega)
      show Order.top low (laneOf _ r ⟨(128 * j + l.val) % 128, _⟩) ((128 * j + l.val) / 128) = a
      rw [e1, e2]
      exact (top_eq_iff ha).mpr e
  device i a ha := by
    simp only [Finset.mem_image, Finset.mem_univ, true_and]
    constructor
    · rintro ⟨k, e⟩
      exact ⟨k.val, k.isLt, (top_eq_iff ha).mp e⟩
    · rintro ⟨j, hj, e⟩
      exact ⟨⟨j, hj⟩, (top_eq_iff ha).mpr e⟩
  merged a _ := by
    simp only [Finset.mem_image, Finset.mem_univ, true_and]
    constructor
    · rintro ⟨q, e⟩
      exact ⟨⟨q.val / 16, by omega⟩, ⟨q.val % 16, Nat.mod_lt _ (by omega)⟩, e⟩
    · rintro ⟨i, k, e⟩
      refine ⟨⟨16 * i.val + k.val, by omega⟩, ?_⟩
      have e1 : (⟨(16 * i.val + k.val) / 16, by omega⟩ : Fin 4) = i := Fin.ext (by show (16 * i.val + k.val) / 16 = i.val; omega)
      have e2 : (16 * i.val + k.val) % 16 = k.val := by omega
      show Order.top low (lanesOf (argOf m (crew c ⟨(16 * i.val + k.val) / 16, _⟩)) r) ((16 * i.val + k.val) % 16) = a
      rw [e1, e2]
      exact e
  whole a := by
    simp only [rowSet, laneSet, Finset.mem_image, Finset.mem_univ, true_and]
    constructor
    · rintro ⟨q, e⟩
      obtain ⟨i, hi⟩ := zOf_surjective c ⟨q.val / 4096, by omega⟩
      refine ⟨i, ⟨q.val % 128, Nat.mod_lt _ (by omega)⟩, ⟨q.val % 4096 / 128, by omega⟩, ?_⟩
      rw [hi, ← e]
      refine congrArg (fun q => (X (ix2 r q) : EReal)) (Fin.ext ?_)
      show 4096 * (q.val / 4096) + 128 * (q.val % 4096 / 128) + q.val % 128 = q.val
      omega
    · rintro ⟨i, l, j, e⟩
      exact ⟨_, e⟩

/-- A result is never below the sentinel. -/
theorem low_le_out (c : Dev nD) (r : Fin 512) (k : ℕ) : low ≤ Order.top low (candsOf m c r) k :=
  Order.lo_le_top low _ (1 : Fin 64) (Order.lo_le_top_one low _) k

/-- A result is the sentinel or the rank among the candidates merged. -/
theorem outAt_nth (c : Dev nD) (r : Fin 512) (k : Fin 16) :
    ((outAt m ρ c : FVec Ideal S512x16 .f32) (ix2 r k) : EReal) = Order.nth low (Finset.univ.image (candsOf m c r)) k.val := by
  rw [outAt_apply, ← Order.max_top]
  exact (max_eq_right (low_le_out c r k.val)).symm

/-- The result at `(r, k)` is a value `v` above the sentinel that has `k` greater ones in the row, if no lane has more than four
    entries' values above `v` and one that holds `v` has less than four. -/
theorem outAt_eq {X : FVec Ideal Whole .f32} (hX : Blocks m X) (c : Dev nD) (r : Fin 512) (k : Fin 16) {v : EReal} (hlo : low < v)
    (hk : ((rowSet X r).filter (v < ·)).card = k.val) (hkept : ∀ z l, ((laneSet X r z l).filter (v < ·)).card ≤ 4)
    (hfound : ∃ z l, v ∈ laneSet X r z l ∧ ((laneSet X r z l).filter (v < ·)).card < 4) :
    ((outAt m ρ c : FVec Ideal S512x16 .f32) (ix2 r k) : EReal) = v := by
  rw [outAt_nth]
  refine (stages hX c r).nth_merged hlo hk k.isLt (fun i l => hkept _ l) ?_
  obtain ⟨z, l, h⟩ := hfound
  obtain ⟨i, rfl⟩ := zOf_surjective c z
  exact ⟨i, l, h⟩

/-- The result at `(r, k)` is the sentinel if no more than `k` values of the row are above it. -/
theorem outAt_eq_low {X : FVec Ideal Whole .f32} (hX : Blocks m X) (c : Dev nD) (r : Fin 512) (k : Fin 16)
    (hk : ((rowSet X r).filter (low < ·)).card ≤ k.val) : ((outAt m ρ c : FVec Ideal S512x16 .f32) (ix2 r k) : EReal) = low := by
  rw [outAt_nth]
  exact (stages hX c r).nth_merged_lo hk

end Cert.TopK

end
-- ==== Proof.Reference.lean ====
/-
The reference's result entry by entry: entry `(r, k)` is the entry of row `r` that a descending order of the row puts at place `k`;
and how many values of the row are above it.
-/
module

public import proofs.«01_k».proof.On_clear
public import Idealize.ShloMosaic.Lib.SortFacts
public import Idealize.ShloMosaic.Lib.ValueIdxCore
public import Idealize.ShloMosaic.Lib.ReduceAll
public import Idealize.ShloMosaic.Lib.StableHlo.Predicate
public import Idealize.ShloMosaic.Lib.Pipeline.Value
public import Idealize.ShloMosaic.PureOps.Ideal.Laws

@[expose] public section

noncomputable section

namespace Cert.TopK

open Cert.On_clear Cert.On_clear.Facts
open Idealize.ShloMosaic Idealize.ShloMosaic.ValueIdx

variable [Cert.On_clear.Facts]

/-! ## Values in descending order -/

/-- Of values in descending order, at most `k` are above the one at place `k`. -/
theorem above_le {n : ℕ} {s : Fin n → EReal} (hs : ∀ i j, i < j → s j ≤ s i) (k : Fin n) :
    ((Finset.univ.image s).filter (s k < ·)).card ≤ k.val := by
  have hsub : (Finset.univ.image s).filter (s k < ·) ⊆ (Finset.univ : Finset (Fin k.val)).image fun i => s ⟨i.val, by omega⟩ := by
    intro a ha
    obtain ⟨hm, hlt⟩ := Finset.mem_filter.mp ha
    obtain ⟨j, _, rfl⟩ := Finset.mem_image.mp hm
    have hj : j < k := by
      by_contra hn
      rcases lt_or_eq_of_le (not_lt.mp hn) with h | h
      · exact absurd hlt (not_lt.mpr (hs k j h))
      · exact absurd hlt (h ▸ lt_irrefl _)
    exact Finset.mem_image.mpr ⟨⟨j.val, hj⟩, Finset.mem_univ _, rfl⟩
  exact (Finset.card_le_card hsub).trans (Finset.card_image_le.trans (by simp))

/-- If the values up to place `k` descend strictly, exactly `k` are above the one at place `k`. -/
theorem above_eq {n : ℕ} {s : Fin n → EReal} (hs : ∀ i j, i < j → s j ≤ s i) (k : Fin n)
    (hd : ∀ i : ℕ, ∀ h : i < k.val, s ⟨i + 1, by omega⟩ < s ⟨i, by omega⟩) :
    ((Finset.univ.image s).filter (s k < ·)).card = k.val := by
  have hst : ∀ (d i : ℕ) (h : i + d + 1 ≤ k.val), s ⟨i + d + 1, by omega⟩ < s ⟨i, by omega⟩ := by
    intro d
    induction d with
    | zero => intro i h; exact hd i (by omega)
    | succ d ih => intro i h; exact (hd (i + d + 1) (by omega)).trans (ih i (by omega))
  have hlt : ∀ i j : Fin n, i < j → j ≤ k → s j < s i := by
    intro i j hij hjk
    have hij' : i.val < j.val := hij
    have hjk' : j.val ≤ k.val := hjk
    have h := hst (j.val - i.val - 1) i.val (by omega)
    have e : (⟨i.val + (j.val - i.val - 1) + 1, by omega⟩ : Fin n) = j := Fin.ext (by show i.val + (j.val - i.val - 1) + 1 = j.val; omega)
    rwa [e] at h
  refine le_antisymm (above_le hs k) ?_
  have hinj : Function.Injective fun i : Fin k.val => s ⟨i.val, by omega⟩ := by
    intro i j e
    by_contra hne
    rcases lt_or_gt_of_ne (show i.val ≠ j.val from fun h => hne (Fin.ext h)) with h | h
    · exact absurd e.symm (hlt ⟨i.val, by omega⟩ ⟨j.val, by omega⟩ h (Nat.le_of_lt j.isLt)).ne
    · exact absurd e (hlt ⟨j.val, by omega⟩ ⟨i.val, by omega⟩ h (Nat.le_of_lt i.isLt)).ne
  have hc : ((Finset.univ : Finset (Fin k.val)).image fun i => s ⟨i.val, by omega⟩).card = k.val := by
    rw [Finset.card_image_of_injective _ hinj, Finset.card_univ, Fintype.card_fin]
  refine hc.symm.le.trans (Finset.card_le_card fun a ha => ?_)
  obtain ⟨i, _, rfl⟩ := Finset.mem_image.mp ha
  exact Finset.mem_filter.mpr ⟨Finset.mem_image.mpr ⟨_, Finset.mem_univ _, rfl⟩, hlt ⟨i.val, by omega⟩ k i.isLt le_rfl⟩

/-! ## The order -/

/-- The sort's comparison is of the first components. -/
theorem comparator_eq (p q : Ideal .f32 × BitVec 32) :
    comparator_f32_i32_d1 (F := Ideal) p q = BitVec.ofBool (decide ((p.1 : EReal) < q.1)) := by
  have key : ∀ x : EReal, Scalar.select (FloatOps.cmpf (F := Ideal) (φ := .f32) .une x x) (FloatOps.ofBits (F := Ideal) .f32 0x7FC00000#32)
      (Scalar.select (FloatOps.cmpf (F := Ideal) (φ := .f32) .oeq x (FloatOps.ofBits (F := Ideal) .f32 0x00000000#32))
        (FloatOps.ofBits (F := Ideal) .f32 0x00000000#32) x) = x := by
    intro x
    have e0 : FloatOps.ofBits (F := Ideal) .f32 0x00000000#32 = (0 : EReal) := Ideal.ofBits_zero_f32
    rw [e0, Ideal.cmpf_def, Ideal.cmpf_def]
    by_cases h : x = 0
    · simp [Ideal.cmp, Scalar.select, h]
    · simp [Ideal.cmp, Scalar.select, h]
  unfold comparator_f32_i32_d1
  dsimp only
  rw [key p.1, key q.1]
  rfl

/-- Where the sort takes place `q` of row `r` from. -/
def source (X : FVec Ideal S512x16384 .f32) (r : Fin 512) : Fin 16384 → Fin 16384 :=
  sortedFrom fun k k' => comparator_f32_i32_d1 (F := Ideal) (Host.negf X (ix2 r k), iotaInDim S512x16384 32 1 (ix2 r k))
    (Host.negf X (ix2 r k'), iotaInDim S512x16384 32 1 (ix2 r k')) == 1#1

/-- A place of the sort's fiber. -/
theorem along_ix2 (r : Fin 512) (q k : Fin 16384) : Shape.Idx.along (s := S512x16384) (ix2 r q) (1 : Fin 2) k = ix2 r k := by
  funext a
  match a with
  | ⟨0, _⟩ => rfl
  | ⟨1, _⟩ => rfl

/-- A sort of two arrays permutes the second by the order of the pairs. -/
theorem sort2_snd {s : Shape} {α β : Type} (d : Nat) (hd : d < s.rank) (cmp : α × β → α × β → BitVec 1) (x : s.Idx → α) (y : s.Idx → β) (j : s.Idx) :
    (Host.sort2 s d cmp x y).2 j = y (j.along ⟨d, hd⟩ (sortedFrom (fun k k' =>
      cmp (x (j.along ⟨d, hd⟩ k), y (j.along ⟨d, hd⟩ k)) (x (j.along ⟨d, hd⟩ k'), y (j.along ⟨d, hd⟩ k')) == 1#1) (j ⟨d, hd⟩))) := by
  unfold Host.sort2
  rw [dif_pos hd]

/-- The sort's second result holds the places. -/
theorem argsort_apply (X : FVec Ideal S512x16384 .f32) (r : Fin 512) (q : Fin 16384) :
    fn_argsort (F := Ideal) (Host.negf X) (ix2 r q) = BitVec.ofNat 32 (source X r q).val := by
  unfold fn_argsort
  dsimp only
  have hd : 1 < S512x16384.rank := Nat.lt_succ_self 1
  have e : ∀ k : Fin 16384, Shape.Idx.along (s := S512x16384) (ix2 r q) ⟨1, hd⟩ k = ix2 r k := along_ix2 r q
  refine (sort2_snd 1 hd (comparator_f32_i32_d1 (F := Ideal)) (Host.negf X) (iotaInDim S512x16384 32 1) (ix2 r q)).trans ?_
  refine (congrArg (iotaInDim S512x16384 32 1) (e _)).trans ?_
  refine congrArg (BitVec.ofNat 32) (congrArg Fin.val ?_)
  unfold source
  refine congrFun (congrArg sortedFrom (funext fun k => funext fun k' => ?_)) q
  exact congrArg₂ (fun a b => comparator_f32_i32_d1 (F := Ideal) (Host.negf X a, iotaInDim S512x16384 32 1 a) (Host.negf X b, iotaInDim S512x16384 32 1 b) == 1#1)
    (e k) (e k')

/-- Row `r` in the order of the sort. -/
def ordered (X : FVec Ideal S512x16384 .f32) (r : Fin 512) (q : Fin 16384) : EReal := X (ix2 r (source X r q))

/-- The order descends. -/
theorem ordered_le (X : FVec Ideal S512x16384 .f32) (r : Fin 512) (i j : Fin 16384) (h : i < j) : ordered X r j ≤ ordered X r i := by
  have hR : ∀ a b : Fin 16384, (comparator_f32_i32_d1 (F := Ideal) (Host.negf X (ix2 r a), iotaInDim S512x16384 32 1 (ix2 r a))
      (Host.negf X (ix2 r b), iotaInDim S512x16384 32 1 (ix2 r b)) == 1#1) = decide ((X (ix2 r b) : EReal) < X (ix2 r a)) := by
    intro a b
    rw [comparator_eq]
    show (BitVec.ofBool (decide ((-(X (ix2 r a)) : EReal) < -(X (ix2 r b)))) == 1#1) = _
    simp only [EReal.neg_lt_neg_iff]
    by_cases hab : (X (ix2 r b) : EReal) < X (ix2 r a)
    · simp [hab]
    · simp [hab]
  have e : source X r = sortedFrom fun a b => decide ((X (ix2 r b) : EReal) < X (ix2 r a)) :=
    congrArg sortedFrom (funext fun a => funext fun b => hR a b)
  have hn := sortedFrom_noInversion (fun a b : Fin 16384 => decide ((X (ix2 r b) : EReal) < X (ix2 r a)))
    (fun a b : Fin 16384 => decide ((X (ix2 r b) : EReal) < X (ix2 r a)))
    (fun a b hab => by simp only [decide_eq_true_eq, decide_eq_false_iff_not, not_lt] at hab ⊢; exact hab.le)
    (fun a b hab => hab)
    (fun a b c hab hbc => by simp only [decide_eq_false_iff_not, not_lt] at hab hbc ⊢; exact hab.trans hbc) i j h
  rw [← e] at hn
  exact not_lt.mp (of_decide_eq_false hn)

/-- The order has the row's values. -/
theorem ordered_image (X : FVec Ideal S512x16384 .f32) (r : Fin 512) :
    Finset.univ.image (ordered X r) = Finset.univ.image fun q : Fin 16384 => (X (ix2 r q) : EReal) := by
  ext a
  simp only [Finset.mem_image, Finset.mem_univ, true_and]
  constructor
  · rintro ⟨q, e⟩
    exact ⟨_, e⟩
  · rintro ⟨q, e⟩
    obtain ⟨p, rfl⟩ : ∃ p, source X r p = q := sortedFrom_surjective _ q
    exact ⟨p, e⟩

/-! ## Taking -/

/-- The gather's operand entry. -/
theorem gather_apply (X : FVec Ideal S512x16384 .f32) (A : IVec S512x16x1 32) (r : Fin 512) (k : Fin 16) :
    Host.gather gather_S512x16384_S512x16x1_S512x16_n_1_0_0_1_2_11 X A (ix2 r k)
      = X (ix2 r ⟨min (A (ix3 r k (0 : Fin 1))).toInt.toNat 16383, by omega⟩) := by
  unfold Host.gather
  congr 1
  funext a
  refine Fin.ext ?_
  match a with
  | ⟨0, _⟩ =>
    show GatherDims.start _ (ix2 r k) A 0 + GatherDims.batchCoord _ (ix2 r k) 0 + GatherDims.offCoord _ (ix2 r k) 0 = r.val
    rw [GatherDims.start_batching _ _ _ _ (List.mem_singleton.mpr rfl),
      GatherDims.offCoord_eq_zero _ _ _ fun h => ((GatherDims.mem_sKept _ _).mp h).2 (List.mem_singleton.mpr rfl)]
    unfold GatherDims.batchCoord
    rw [dif_pos (show (0 : Fin S512x16384.rank) ∈ gather_S512x16384_S512x16x1_S512x16_n_1_0_0_1_2_11.operandBatchingDims from List.mem_singleton.mpr rfl)]
    exact (Nat.add_zero _).trans (Nat.zero_add _)
  | ⟨1, _⟩ =>
    show GatherDims.start _ (ix2 r k) A 1 + GatherDims.batchCoord _ (ix2 r k) 1 + GatherDims.offCoord _ (ix2 r k) 1 = min (A (ix3 r k (0 : Fin 1))).toInt.toNat 16383
    rw [GatherDims.batchCoord_eq_zero _ _ _ (fun h => absurd (List.mem_singleton.mp h) (by decide)),
      GatherDims.offCoord_eq_zero _ _ _ fun h => ((GatherDims.mem_sKept _ _).mp h).1 (List.mem_singleton.mpr rfl)]
    unfold GatherDims.start
    rw [dif_pos (show (1 : Fin S512x16384.rank) ∈ gather_S512x16384_S512x16x1_S512x16_n_1_0_0_1_2_11.startIndexMap from List.mem_singleton.mpr rfl)]
    refine congrArg (fun i => min (A i).toInt.toNat 16383) (funext fun b => Fin.ext ?_)
    match b with
    | ⟨0, _⟩ => rfl
    | ⟨1, _⟩ => rfl
    | ⟨2, _⟩ => rfl

/-- Taking at places in range. -/
theorem take_apply (X : FVec Ideal S512x16384 .f32) (A : IVec S512x16 32) (hA : ∀ i, (A i).toNat < 16384) (r : Fin 512) (k : Fin 16) :
    fn_take_along_axis (F := Ideal) X A (ix2 r k) = X (ix2 r ⟨(A (ix2 r k)).toNat, hA _⟩) := by
  have h4 : select (cmpi .slt A (broadcastInDim S512x16 ![] bcast_S_S512x16 (constantI S_ 32 0#32)))
      (addi A (broadcastInDim S512x16 ![] bcast_S_S512x16 (constantI S_ 32 16384#32))) A = A := by
    funext i
    have h := hA i
    have hc : IntOp.cmpi .slt (A i) 0#32 = 0#1 := eq_zero_of_ne_one fun h1 => by
      have := (StableHlo.Predicate.slt_iff_toNat (by omega) (by decide)).mp h1
      simp at this
    show Scalar.select (IntOp.cmpi .slt (A i) 0#32) _ (A i) = A i
    rw [hc, select_zero]
  unfold fn_take_along_axis
  dsimp only
  rw [h4]
  have h12 : ∀ i, Host.reduce IntOp.andi (andi (cmpi .sge (shapeCast S512x16x1 A shapeCasts_S512x16_S512x16x1)
      (broadcastInDim S512x16x1 ![] bcast_S_S512x16x1 (constantI S_ 32 0#32)))
      (cmpi .sle (shapeCast S512x16x1 A shapeCasts_S512x16_S512x16x1) (broadcastInDim S512x16x1 ![0, 1, 2] bcast_S1x1x1_S512x16x1_0_1_2
        (broadcastInDim S1x1x1 ![2] bcast_S1_S1x1x1_2 (constantI S1 32 16383#32))))) (constantI S_ 1 1#1)
      reducesTo_S512x16x1_S512x16_d2 h_S_ i = 1#1 := by
    intro i
    refine Host.reduce_andi_one _ _ _ _ _ rfl fun i => ?_
    obtain ⟨l, hl⟩ : ∃ l, shapeCast S512x16x1 A shapeCasts_S512x16_S512x16x1 i = A l := ⟨_, rfl⟩
    show IntOp.andi (IntOp.cmpi .sge (shapeCast S512x16x1 A _ i) 0#32) (IntOp.cmpi .sle (shapeCast S512x16x1 A _ i) 16383#32) = 1#1
    have h := hA l
    rw [hl, (StableHlo.Predicate.sge_iff_toNat (by omega) (by decide)).mpr (Nat.zero_le _),
      (StableHlo.Predicate.sle_iff_toNat (by omega) (by decide)).mpr (Nat.le_of_lt_succ h)]
    rfl
  refine (congrFun (congrArg (fun b => select b _ _) (funext h12)) (ix2 r k)).trans ?_
  refine (gather_apply X _ r k).trans ?_
  refine congrArg (fun q => X (ix2 r q)) (Fin.ext ?_)
  have h := hA (ix2 r k)
  show min (shapeCast S512x16x1 A shapeCasts_S512x16_S512x16x1 (ix3 r k (0 : Fin 1))).toInt.toNat 16383 = (A (ix2 r k)).toNat
  rw [shapeCast_apply A _ (ix3 r k (0 : Fin 1)) (ix2 r k) (by
    rw [Shape.rowMajor_val_two, Shape.rowMajor_val_three]
    show r.val * 16 + k.val = (r.val * 16 + k.val) * 1 + 0
    omega), StableHlo.Predicate.toInt_eq_toNat_of_lt (by omega), Int.toNat_natCast]
  omega

/-- What the reference computes of `X`. -/
def pick (X : FVec Ideal S512x16384 .f32) : FVec Ideal S512x16 .f32 :=
  fn_take_along_axis (F := Ideal) X (extractStridedSlice S512x16 ![0, 0] (fn_argsort (F := Ideal) (Host.negf X)) slices_S512x16384_S512x16_0_0)

/-- A result of the reference is the row's entry at that place of the order. -/
theorem pick_apply (X : FVec Ideal S512x16384 .f32) (r : Fin 512) (k : Fin 16) :
    (pick X (ix2 r k) : EReal) = ordered X r ⟨k.val, by omega⟩ := by
  have hA : ∀ (r : Fin 512) (k : Fin 16), (extractStridedSlice S512x16 ![0, 0] (fn_argsort (F := Ideal) (Host.negf X)) slices_S512x16384_S512x16_0_0) (ix2 r k)
      = BitVec.ofNat 32 (source X r ⟨k.val, by omega⟩).val := by
    intro r k
    refine (extractStridedSlice_apply (s := S512x16384) ![0, 0] _ _ (ix2 r k) (ix2 r ⟨k.val, by omega⟩) fun a => ?_).trans (argsort_apply X r _)
    match a with
    | ⟨0, _⟩ => exact (Nat.zero_add _).symm
    | ⟨1, _⟩ => exact (Nat.zero_add _).symm
  have hn : ∀ (r : Fin 512) (k : Fin 16), ((extractStridedSlice S512x16 ![0, 0] (fn_argsort (F := Ideal) (Host.negf X)) slices_S512x16384_S512x16_0_0) (ix2 r k)).toNat
      = (source X r ⟨k.val, by omega⟩).val := by
    intro r k
    rw [hA, BitVec.toNat_ofNat]
    have := (source X r ⟨k.val, by omega⟩).isLt
    omega
  refine (take_apply X _ (fun i => ?_) r k).trans (congrArg (fun q => X (ix2 r q)) (Fin.ext (hn r k)))
  obtain ⟨r', k', rfl⟩ : ∃ (r' : Fin 512) (k' : Fin 16), i = ix2 r' k' := ⟨i 0, i 1, eq_ix2 i⟩
  rw [hn]
  exact (source X _ _).isLt

end Cert.TopK

end
-- ==== Proof.Mask.lean ====
/-
What the mask says at an entry: the reference's value there is the sentinel; or it is above it, the reference's values up to it
descend strictly, no lane holds more than four entries above it and some lane that holds it has at most three.
-/
module

public import proofs.«01_k».proof.Proof.Reference
public import proofs.«01_k».proof.Proof.Rounds

@[expose] public section

noncomputable section

namespace Cert.TopK

open Cert.On_clear Cert.On_clear.Facts
open Idealize.ShloMosaic Idealize.ShloMosaic.ValueIdx

variable [Cert.On_clear.Facts]

/-! ## The mask's parts -/

/-- Whether the values up to a place descend strictly. -/
def distinctBit (s : FVec Ideal S512x16 .f32) : IVec S512x16 1 :=
  Host.reduce IntOp.andi
    (ori (broadcastInDim S512x16x15 ![0, 1, 2] bcast_S512x1x15_S512x16x15_0_1_2
        (cmpf .ogt (broadcastInDim S512x1x15 ![0, 2] bcast_S512x15_S512x1x15_0_2 (extractStridedSlice S512x15 ![0, 0] s slices_S512x16_S512x15_0_0))
          (broadcastInDim S512x1x15 ![0, 2] bcast_S512x15_S512x1x15_0_2 (extractStridedSlice S512x15 ![0, 1] s slices_S512x16_S512x15_0_1))))
      (broadcastInDim S512x16x15 ![0, 1, 2] bcast_S1x16x15_S512x16x15_0_1_2 (cmpi .sge (iotaInDim S1x16x15 32 2) (iotaInDim S1x16x15 32 1))))
    (constantI S_ 1 1#1) reducesTo_S512x16x15_S512x16_d2 h_S_

/-- The array by rows, blocks, slices and lanes, beside every result. -/
def entries (X : FVec Ideal S512x16384 .f32) : FVec Ideal S512x4x32x128x16 .f32 :=
  broadcastInDim S512x4x32x128x16 ![0, 1, 2, 3, 4] bcast_S512x4x32x128x1_S512x4x32x128x16_0_1_2_3_4
    (shapeCast S512x4x32x128x1 X shapeCasts_S512x16384_S512x4x32x128x1)

/-- The results beside every entry of the row. -/
def results (s : FVec Ideal S512x16 .f32) : FVec Ideal S512x4x32x128x16 .f32 :=
  broadcastInDim S512x4x32x128x16 ![0, 1, 2, 3, 4] bcast_S512x1x1x1x16_S512x4x32x128x16_0_1_2_3_4
    (shapeCast S512x1x1x1x16 s shapeCasts_S512x16_S512x1x1x1x16)

/-- How many entries of a lane are above a result. -/
def moreOf (X : FVec Ideal S512x16384 .f32) (s : FVec Ideal S512x16 .f32) : IVec S512x4x128x16 32 :=
  Host.reduce IntOp.addi (extui 32 (cmpf .ogt (entries X) (results s)) natLt_1_32) (constantI S_ 32 0#32)
    reducesTo_S512x4x32x128x16_S512x4x128x16_d2 h_S_

/-- Whether a lane holds a result. -/
def hereBit (X : FVec Ideal S512x16384 .f32) (s : FVec Ideal S512x16 .f32) : IVec S512x4x128x16 1 :=
  Host.reduce IntOp.ori (cmpf .oeq (entries X) (results s)) (constantI S_ 1 0#1) reducesTo_S512x4x32x128x16_S512x4x128x16_d2 h_S_

/-- Whether no lane has more than four entries above a result. -/
def keptBit (c : IVec S512x4x128x16 32) : IVec S512x16 1 :=
  Host.reduce IntOp.andi (cmpi .sle c (broadcastInDim S512x4x128x16 ![] bcast_S_S512x4x128x16 (constantI S_ 32 4#32))) (constantI S_ 1 1#1)
    reducesTo_S512x4x128x16_S512x16_d1_2 h_S_

/-- Whether some lane holds a result below at most three entries. -/
def foundBit (b : IVec S512x4x128x16 1) (c : IVec S512x4x128x16 32) : IVec S512x16 1 :=
  Host.reduce IntOp.ori (andi b (cmpi .sle c (broadcastInDim S512x4x128x16 ![] bcast_S_S512x4x128x16 (constantI S_ 32 3#32))))
    (constantI S_ 1 0#1) reducesTo_S512x4x128x16_S512x16_d1_2 h_S_

/-- The mask from its parts. -/
theorem mask_eq (X : FVec Ideal S512x16384 .f32) :
    Cert.On_clear.fn (F := Ideal) X
      = ori (cmpf .oeq (pick X) (broadcastInDim S512x16 ![] bcast_S_S512x16 (constant S_ .f32 0xFF7FFFFF#32)))
          (andi (andi (andi (cmpf .ogt (pick X) (broadcastInDim S512x16 ![] bcast_S_S512x16 (constant S_ .f32 0xFF7FFFFF#32))) (distinctBit (pick X)))
            (keptBit (moreOf X (pick X)))) (foundBit (hereBit X (pick X)) (moreOf X (pick X)))) := rfl

/-! ## Reading them -/

/-- A comparison for greater is set exactly if it holds. -/
theorem ogt_iff (a b : EReal) : FloatOps.cmpf (F := Ideal) (φ := .f32) .ogt a b = 1#1 ↔ b < a := by
  rw [Ideal.cmpf_def]
  show BitVec.ofBool (decide (b < a)) = 1#1 ↔ _
  rw [StableHlo.Predicate.ofBool_eq_one_iff, decide_eq_true_eq]

/-- A comparison for equal is set exactly if it holds. -/
theorem oeq_iff (a b : EReal) : FloatOps.cmpf (F := Ideal) (φ := .f32) .oeq a b = 1#1 ↔ a = b := by
  rw [Ideal.cmpf_def]
  show BitVec.ofBool (decide (a = b)) = 1#1 ↔ _
  rw [StableHlo.Predicate.ofBool_eq_one_iff, decide_eq_true_eq]

/-- A fold by or that comes out set, from a clear bit, met a set bit. -/
theorem foldl_ori {ι : Type} (f : ι → BitVec 1) : ∀ (l : List ι) (b : BitVec 1), l.foldl (fun r n => IntOp.ori r (f n)) b = 1#1 →
    b = 1#1 ∨ ∃ n ∈ l, f n = 1#1
  | [], _, h => Or.inl h
  | a :: l, b, h => by
    rcases foldl_ori f l _ h with h | ⟨n, hn, h⟩
    · rcases IntOp.ori_eq_one.mp h with h | h
      · exact Or.inl h
      · exact Or.inr ⟨a, List.mem_cons_self, h⟩
    · exact Or.inr ⟨n, List.mem_cons_of_mem _ hn, h⟩

/-- A reduction by or that is set has a set bit among those that reduce to it. -/
theorem reduce_ori {s t u : Shape} {axes : List (Fin s.rank)} (x : s.Idx → BitVec 1) (init : u.Idx → BitVec 1) (h : s.ReducesTo axes t)
    (hu : 0 < u.numel) (j : t.Idx) (h0 : init (Shape.Idx.first hu) = 0#1) (e : Host.reduce IntOp.ori x init h hu j = 1#1) :
    ∃ i, h.drop i = j ∧ x i = 1#1 := by
  rw [Host.reduce_eq_foldl] at e
  rcases foldl_ori x _ _ e with h1 | ⟨n, hn, h1⟩
  · rw [h0] at h1
    exact absurd h1 (by decide)
  · exact ⟨n, by simpa using (List.mem_filter.mp hn).2, h1⟩

/-- An entry of the array by blocks, slices and lanes. -/
theorem entries_apply (X : FVec Ideal S512x16384 .f32) (r : Fin 512) (z : Fin 4) (j : Fin 32) (l : Fin 128) (k : Fin 16) :
    entries X (ix5 r z j l k) = X (ix2 r ⟨4096 * z.val + 128 * j.val + l.val, by omega⟩) := by
  unfold entries
  refine (broadcastInDim_apply _ _ _ (ix5 r z j l k) (ix5 r z j l (0 : Fin 1)) fun a => ?_).trans ?_
  · match a with
    | ⟨0, _⟩ => rfl
    | ⟨1, _⟩ => rfl
    | ⟨2, _⟩ => rfl
    | ⟨3, _⟩ => rfl
    | ⟨4, _⟩ => rfl
  · refine shapeCast_apply X _ _ _ ?_
    rw [Shape.rowMajor_val_two, Shape.rowMajor_val_five]
    show r.val * 16384 + (4096 * z.val + 128 * j.val + l.val) = (((r.val * 4 + z.val) * 32 + j.val) * 128 + l.val) * 1 + 0
    omega

/-- A result beside an entry. -/
theorem results_apply (s : FVec Ideal S512x16 .f32) (r : Fin 512) (z : Fin 4) (j : Fin 32) (l : Fin 128) (k : Fin 16) :
    results s (ix5 r z j l k) = s (ix2 r k) := by
  unfold results
  refine (broadcastInDim_apply _ _ _ (ix5 r z j l k) (ix5 r (0 : Fin 1) (0 : Fin 1) (0 : Fin 1) k) fun a => ?_).trans ?_
  · match a with
    | ⟨0, _⟩ => rfl
    | ⟨1, _⟩ => rfl
    | ⟨2, _⟩ => rfl
    | ⟨3, _⟩ => rfl
    | ⟨4, _⟩ => rfl
  · refine shapeCast_apply s _ _ _ ?_
    rw [Shape.rowMajor_val_two, Shape.rowMajor_val_five]
    show r.val * 16 + k.val = (((r.val * 1 + 0) * 1 + 0) * 1 + 0) * 16 + k.val
    omega

/-- The entries of lane `l` of block `z` of row `r` that are above `v`. -/
def aboveIn (X : FVec Ideal S512x16384 .f32) (r : Fin 512) (z : Fin 4) (l : Fin 128) (v : EReal) : Finset (Fin 32) :=
  Finset.univ.filter fun j : Fin 32 => v < X (ix2 r ⟨4096 * z.val + 128 * j.val + l.val, by omega⟩)

/-- The count of a lane. -/
theorem moreOf_apply (X : FVec Ideal S512x16384 .f32) (s : FVec Ideal S512x16 .f32) (r : Fin 512) (z : Fin 4) (l : Fin 128) (k : Fin 16) :
    (moreOf X s (ix4 r z l k)).toNat = (aboveIn X r z l (s (ix2 r k))).card := by
  have hR : S512x4x32x128x16.Reduces [2] S512x4x128x16 := by decide
  unfold moreOf
  rw [Host.reduce_eq_fold_single IntOp.addi _ _ reducesTo_S512x4x32x128x16_S512x4x128x16_d2 hR]
  have hv : ∀ j : Fin 32, ((extui 32 (cmpf .ogt (entries X) (results s)) natLt_1_32 ∘ hR.lift (ix4 r z l k)) j).toNat
      = if (s (ix2 r k) : EReal) < X (ix2 r ⟨4096 * z.val + 128 * j.val + l.val, by omega⟩) then 1 else 0 := by
    intro j
    have hl : hR.lift (ix4 r z l k) j = ix5 r z j l k := by
      funext a
      match a with
      | ⟨0, _⟩ => rfl
      | ⟨1, _⟩ => rfl
      | ⟨2, _⟩ => rfl
      | ⟨3, _⟩ => rfl
      | ⟨4, _⟩ => rfl
    show ((FloatOps.cmpf (F := Ideal) (φ := .f32) .ogt (entries X (hR.lift (ix4 r z l k) j)) (results s (hR.lift (ix4 r z l k) j))).setWidth 32).toNat = _
    rw [hl, StableHlo.Predicate.toNat_setWidth_bit, entries_apply, results_apply]
    simp only [ogt_iff]
  have hsum : ∑ j : Fin 32, ((extui 32 (cmpf .ogt (entries X) (results s)) natLt_1_32 ∘ hR.lift (ix4 r z l k)) j).toNat
      = (aboveIn X r z l (s (ix2 r k))).card := by
    unfold aboveIn
    rw [Finset.card_filter]
    exact Finset.sum_congr rfl fun j _ => hv j
  refine (StableHlo.Predicate.toNat_fold_addi (Finset.univ : Finset (Fin 32)) _ ?_).trans hsum
  refine lt_of_le_of_lt (hsum.le.trans (Finset.card_le_univ _)) ?_
  rw [Fintype.card_fin]
  omega

/-- A lane that holds a result. -/
theorem hereBit_apply (X : FVec Ideal S512x16384 .f32) (s : FVec Ideal S512x16 .f32) (r : Fin 512) (z : Fin 4) (l : Fin 128) (k : Fin 16)
    (h : hereBit X s (ix4 r z l k) = 1#1) : ∃ j : Fin 32, (X (ix2 r ⟨4096 * z.val + 128 * j.val + l.val, by omega⟩) : EReal) = s (ix2 r k) := by
  obtain ⟨i, hi, h1⟩ := reduce_ori _ _ _ _ _ rfl h
  obtain ⟨a, b, j, d, e, rfl⟩ : ∃ (a : Fin 512) (b : Fin 4) (j : Fin 32) (d : Fin 128) (e : Fin 16), i = ix5 a b j d e :=
    ⟨i 0, i 1, i 2, i 3, i 4, eq_ix5 i⟩
  have h0 : a = r := congrFun hi 0
  have h2 : b = z := congrFun hi 1
  have h3 : d = l := congrFun hi 2
  have h4 : e = k := congrFun hi 3
  subst h0 h2 h3 h4
  refine ⟨j, ?_⟩
  have h5 : FloatOps.cmpf (F := Ideal) (φ := .f32) .oeq (entries X (ix5 a b j d e)) (results s (ix5 a b j d e)) = 1#1 := h1
  rw [entries_apply, results_apply] at h5
  exact (oeq_iff _ _).mp h5

/-- The values up to a place descend strictly. -/
theorem distinctBit_apply (s : FVec Ideal S512x16 .f32) (r : Fin 512) (k : Fin 16) (h : distinctBit s (ix2 r k) = 1#1) (j : Fin 15)
    (hj : j.val < k.val) : (s (ix2 r ⟨j.val + 1, by omega⟩) : EReal) < s (ix2 r ⟨j.val, by omega⟩) := by
  have hd : reducesTo_S512x16x15_S512x16_d2.drop (ix3 r k j) = ix2 r k := by
    funext a
    match a with
    | ⟨0, _⟩ => rfl
    | ⟨1, _⟩ => rfl
  have h1 := Host.reduce_andi_eq_one _ _ _ _ _ h (ix3 r k j) hd
  rcases IntOp.ori_eq_one.mp h1 with h2 | h2
  · rw [broadcastInDim_apply _ _ _ (ix3 r k j) (ix3 r (0 : Fin 1) j) fun a => by
      match a with
      | ⟨0, _⟩ => rfl
      | ⟨1, _⟩ => rfl
      | ⟨2, _⟩ => rfl] at h2
    have h3 := (ogt_iff _ _).mp h2
    have hb : ∀ y : FVec Ideal S512x15 .f32, broadcastInDim S512x1x15 ![0, 2] bcast_S512x15_S512x1x15_0_2 y (ix3 r (0 : Fin 1) j) = y (ix2 r j) :=
      fun y => broadcastInDim_apply _ _ _ _ _ fun a => by
        match a with
        | ⟨0, _⟩ => rfl
        | ⟨1, _⟩ => rfl
    rw [hb, hb] at h3
    rw [extractStridedSlice_apply (s := S512x16) ![0, 0] s _ (ix2 r j) (ix2 r ⟨j.val, by omega⟩) fun a => by
        match a with
        | ⟨0, _⟩ => exact (Nat.zero_add _).symm
        | ⟨1, _⟩ => exact (Nat.zero_add _).symm,
      extractStridedSlice_apply (s := S512x16) ![0, 1] s _ (ix2 r j) (ix2 r ⟨j.val + 1, by omega⟩) fun a => by
        match a with
        | ⟨0, _⟩ => exact (Nat.zero_add _).symm
        | ⟨1, _⟩ => exact Nat.add_comm _ _] at h3
    exact h3
  · rw [broadcastInDim_apply _ _ _ (ix3 r k j) (ix3 (0 : Fin 1) k j) fun a => by
      match a with
      | ⟨0, _⟩ => rfl
      | ⟨1, _⟩ => rfl
      | ⟨2, _⟩ => rfl] at h2
    have h3 : IntOp.cmpi .sge (BitVec.ofNat 32 j.val) (BitVec.ofNat 32 k.val) = 1#1 := h2
    rw [StableHlo.Predicate.sge_iff_toNat (by rw [BitVec.toNat_ofNat]; omega) (by rw [BitVec.toNat_ofNat]; omega), BitVec.toNat_ofNat,
      BitVec.toNat_ofNat] at h3
    omega

/-- No lane has more than four entries above a result. -/
theorem keptBit_apply (X : FVec Ideal S512x16384 .f32) (s : FVec Ideal S512x16 .f32) (r : Fin 512) (k : Fin 16)
    (h : keptBit (moreOf X s) (ix2 r k) = 1#1) (z : Fin 4) (l : Fin 128) : (aboveIn X r z l (s (ix2 r k))).card ≤ 4 := by
  have hd : reducesTo_S512x4x128x16_S512x16_d1_2.drop (ix4 r z l k) = ix2 r k := by
    funext a
    match a with
    | ⟨0, _⟩ => rfl
    | ⟨1, _⟩ => rfl
  have h1 : IntOp.cmpi .sle (moreOf X s (ix4 r z l k)) 4#32 = 1#1 := Host.reduce_andi_eq_one _ _ _ _ _ h (ix4 r z l k) hd
  have hc := moreOf_apply X s r z l k
  have hle : (aboveIn X r z l (s (ix2 r k))).card ≤ 32 := (Finset.card_le_univ _).trans (by rw [Fintype.card_fin])
  rw [StableHlo.Predicate.sle_iff_toNat (by omega) (by decide), hc] at h1
  exact h1

/-- Some lane holds a result below at most three entries. -/
theorem foundBit_apply (X : FVec Ideal S512x16384 .f32) (s : FVec Ideal S512x16 .f32) (r : Fin 512) (k : Fin 16)
    (h : foundBit (hereBit X s) (moreOf X s) (ix2 r k) = 1#1) :
    ∃ z l, (∃ j : Fin 32, (X (ix2 r ⟨4096 * z.val + 128 * j.val + l.val, by omega⟩) : EReal) = s (ix2 r k))
      ∧ (aboveIn X r z l (s (ix2 r k))).card ≤ 3 := by
  obtain ⟨i, hi, h1⟩ := reduce_ori _ _ _ _ _ rfl h
  obtain ⟨a, z, l, e, rfl⟩ : ∃ (a : Fin 512) (z : Fin 4) (l : Fin 128) (e : Fin 16), i = ix4 a z l e := ⟨i 0, i 1, i 2, i 3, eq_ix4 i⟩
  have h0 : a = r := congrFun hi 0
  have h2 : e = k := congrFun hi 1
  subst h0 h2
  obtain ⟨h3, h4⟩ := IntOp.andi_eq_one.mp h1
  refine ⟨z, l, hereBit_apply X s a z l e h3, ?_⟩
  have h5 : IntOp.cmpi .sle (moreOf X s (ix4 a z l e)) 3#32 = 1#1 := h4
  have hc := moreOf_apply X s a z l e
  have hle : (aboveIn X a z l (s (ix2 a e))).card ≤ 32 := (Finset.card_le_univ _).trans (by rw [Fintype.card_fin])
  rw [StableHlo.Predicate.sle_iff_toNat (by omega) (by decide), hc] at h5
  exact h5

/-- What the mask says at an entry. -/
theorem mask_apply (X : FVec Ideal S512x16384 .f32) (r : Fin 512) (k : Fin 16) (h : Cert.On_clear.fn (F := Ideal) X (ix2 r k) = 1#1) :
    (pick X (ix2 r k) : EReal) = low ∨ (low < (pick X (ix2 r k) : EReal)
      ∧ (∀ j : Fin 15, j.val < k.val → (pick X (ix2 r ⟨j.val + 1, by omega⟩) : EReal) < pick X (ix2 r ⟨j.val, by omega⟩))
      ∧ (∀ z l, (aboveIn X r z l (pick X (ix2 r k))).card ≤ 4)
      ∧ ∃ z l, (∃ j : Fin 32, (X (ix2 r ⟨4096 * z.val + 128 * j.val + l.val, by omega⟩) : EReal) = pick X (ix2 r k))
        ∧ (aboveIn X r z l (pick X (ix2 r k))).card ≤ 3) := by
  rw [mask_eq] at h
  rcases IntOp.ori_eq_one.mp h with h | h
  · exact Or.inl ((oeq_iff _ _).mp h)
  · obtain ⟨h, hf⟩ := IntOp.andi_eq_one.mp h
    obtain ⟨h, hk⟩ := IntOp.andi_eq_one.mp h
    obtain ⟨hg, hd⟩ := IntOp.andi_eq_one.mp h
    exact Or.inr ⟨(ogt_iff _ _).mp hg, fun j hj => distinctBit_apply _ r k hd j hj, keptBit_apply X _ r k hk, foundBit_apply X _ r k hf⟩

end Cert.TopK

end
-- ==== Proof.Value.lean ====
/-
The kernel computes what the reference computes at every entry that the mask admits.
-/
module

public import proofs.«01_k».proof.Defs
public import proofs.«01_k».proof.Proof.Result
public import proofs.«01_k».proof.Proof.Mask
public import proofs.«01_k».proof.Proof.Gen.On_clear
public import proofs.«01_k».proof.Proof.Gen.ReferenceIdeal.Run

@[expose] public section

noncomputable section

namespace Cert.TopK

open Idealize.ShloMosaic Idealize.ShloMosaic.ValueIdx

/-- The values of a lane above `v` are no more than its entries above `v`. -/
theorem lane_card_le (X : FVec Ideal Whole .f32) (r : Fin 512) (z : Fin 4) (l : Fin 128) (v : EReal) :
    ((laneSet X r z l).filter (v < ·)).card ≤ (aboveIn X r z l v).card := by
  unfold laneSet aboveIn
  rw [Finset.filter_image]
  exact Finset.card_image_le

/-- The reference's results, ranked in the row: at most `k` values of the row are above the one at place `k`. -/
theorem pick_above_le [Cert.On_clear.Facts] (X : FVec Ideal Whole .f32) (r : Fin 512) (k : Fin 16) :
    ((rowSet X r).filter ((pick X (ix2 r k) : EReal) < ·)).card ≤ k.val := by
  have h := above_le (ordered_le X r) ⟨k.val, by omega⟩
  rw [ordered_image] at h
  rw [pick_apply]
  exact h

/-- And exactly `k` if the results up to place `k` descend strictly. -/
theorem pick_above_eq [Cert.On_clear.Facts] (X : FVec Ideal Whole .f32) (r : Fin 512) (k : Fin 16)
    (hd : ∀ j : Fin 15, j.val < k.val → (pick X (ix2 r ⟨j.val + 1, by omega⟩) : EReal) < pick X (ix2 r ⟨j.val, by omega⟩)) :
    ((rowSet X r).filter ((pick X (ix2 r k) : EReal) < ·)).card = k.val := by
  have h := above_eq (ordered_le X r) ⟨k.val, by omega⟩ fun i hi => by
    have hi' : i < k.val := hi
    have e := hd ⟨i, by omega⟩ hi'
    rw [pick_apply, pick_apply] at e
    exact e
  rw [ordered_image] at h
  rw [pick_apply]
  exact h

/-- The kernel's result is the reference's at every entry that the mask admits. -/
theorem out_eq_pick [Cert.On_clear.Facts] {m : (ℓ : Loc Cert.KernelIdeal.nD Cert.KernelIdeal.τ Cert.KernelIdeal.sig) → Buf (Elt Ideal) ℓ}
    (ρ : Dev Cert.KernelIdeal.nD → PrngReg) {X : FVec Ideal Whole .f32} (hX : Blocks m X) (c : Dev Cert.KernelIdeal.nD) (r : Fin 512) (k : Fin 16)
    (h : Cert.On_clear.fn (F := Ideal) X (ix2 r k) = 1#1) :
    ((outAt m ρ c : FVec Ideal ⟨2, ![512, 16]⟩ .f32) (ix2 r k) : EReal) = pick X (ix2 r k) := by
  rcases mask_apply X r k h with h | ⟨hlo, hd, hk, z, l, ⟨j, hj⟩, h3⟩
  · have hle := pick_above_le X r k
    rw [h] at hle ⊢
    exact outAt_eq_low ρ hX c r k hle
  · refine outAt_eq ρ hX c r k hlo (pick_above_eq X r k hd) (fun z l => (lane_card_le X r z l _).trans (hk z l)) ⟨z, l, ?_, ?_⟩
    · exact Finset.mem_image.mpr ⟨j, Finset.mem_univ _, hj⟩
    · exact lt_of_le_of_lt ((lane_card_le X r z l _).trans h3) (by omega)

/-- Device `c` holds block `c % 4` of the columns. -/
theorem blocks_of (m : (ℓ : Loc Cert.KernelIdeal.nD Cert.KernelIdeal.τ Cert.KernelIdeal.sig) → Buf (Elt Ideal) ℓ) (X : FVec Ideal Whole .f32)
    (h : ∀ c : Dev Cert.KernelIdeal.nD, m ((c.tc : Thread Cert.KernelIdeal.nD Cert.KernelIdeal.τ).loc Cert.KernelIdeal.main_arg0)
      = Layout.blockN ⟨2, ![512, 4096]⟩ ⟨2, ![512, 16384]⟩ (Layout.meshBlock [2, 4, 4] ![[], [2]] c) X) : Blocks m X := by
  intro c r q
  refine (congrFun (h c) (ix2 r q)).trans ?_
  refine (Layout.blockN_apply _ X _ _).trans ?_
  refine congrArg (fun i => (X i : EReal)) (funext fun a => Fin.ext ?_)
  rw [Layout.TilesN.idx_val]
  match a with
  | ⟨0, _⟩ =>
    show 0 * 512 + r.val = r.val
    omega
  | ⟨1, _⟩ =>
    show (c.val / 1 % 4 * 1 + 0) * 4096 + q.val = 4096 * (c.val % 4) + q.val
    omega

/-- The kernel and the reference, read over the extended reals, end with the same results at every entry that the mask admits, from
    arguments of which every device holds its block. -/
theorem algebraic : Cert.algebraic_KernelIdeal_ReferenceIdeal_on_clear (hKernelIdeal := Cert.KernelIdeal.Gen.facts)
    (hReferenceIdeal := Cert.ReferenceIdeal.Gen.facts) (hOn_clear := Cert.On_clear.Gen.facts) := by
  intro m g m' g' _ hm
  haveI := Cert.On_clear.Gen.facts
  refine ⟨pick (m' (((0 : Dev Cert.ReferenceIdeal.nD).tc : Thread Cert.ReferenceIdeal.nD Cert.ReferenceIdeal.τ).loc Cert.ReferenceIdeal.main_arg0)), ?_, ?_⟩
  · refine (θ_run Cert.KernelIdeal.defs _ _).mono (fun r h c => ⟨fun i hi => ?_, (h.1 c).1⟩) (run_main m g)
    obtain ⟨p, k, rfl⟩ : ∃ (p : Fin 512) (k : Fin 16), i = ix2 p k := ⟨i 0, i 1, eq_ix2 i⟩
    exact (congrFun (h.1 c).2 (ix2 p k)).trans (out_eq_pick g (blocks_of m _ hm) c p k hi)
  · refine (θ_run Cert.ReferenceIdeal.defs _ _).mono (fun r h => ⟨fun i _ => ?_, (h 0).2⟩) (Cert.ReferenceIdeal.Value.run (F := Ideal) m' g')
    exact congrFun (h 0).1 i

end Cert.TopK

end
-- ==== Proof.lean ====
/-
The proof of `Cert.Claim`: its parts, each proved in a module of its own.
-/
module

public import proofs.«01_k».proof.Defs
public import proofs.«01_k».proof.Proof.Frames
public import proofs.«01_k».proof.Proof.Value

@[expose] public section

noncomputable section

namespace Cert.Proof

/-- Every claim of the certificate, under the generated proofs of the programs' side conditions. -/
theorem claim : Cert.Claim :=
  ⟨Cert.Kernel.Gen.facts, Cert.KernelIdeal.Gen.facts, Cert.ReferenceIdeal.Gen.facts, Cert.On_clear.Gen.facts,
    Cert.TopK.frame_bits, Cert.TopK.frame_ideal, Cert.TopK.frame_reference, trivial, Cert.TopK.algebraic⟩

end Cert.Proof

end
